-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_finite [hPre_uniform_finite : Cert.Pre_uniform_finite.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_finite [hPre_uniform_finite : Cert.Pre_uniform_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_uniform_finite [hKernelIdeal : Cert.KernelIdeal.Facts] [hPre_uniform_finite : Cert.Pre_uniform_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_uniform_finite [hReferenceIdeal : Cert.ReferenceIdeal.Facts] [hPre_uniform_finite : Cert.Pre_uniform_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_uniform_finite [hKernelIdeal : Cert.KernelIdeal.Facts] [hReferenceIdeal : Cert.ReferenceIdeal.Facts] [hPre_uniform_finite : Cert.Pre_uniform_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_uniform_finite : Cert.Pre_uniform_finite.Facts),
    quiescent_Kernel (hKernel := hKernel)
    ∧ quiescent_KernelIdeal (hKernelIdeal := hKernelIdeal)
    ∧ quiescent_KernelIdeal_pre_uniform_finite (hKernelIdeal := hKernelIdeal) (hPre_uniform_finite := hPre_uniform_finite)
    ∧ quiescent_ReferenceIdeal (hReferenceIdeal := hReferenceIdeal)
    ∧ quiescent_ReferenceIdeal_pre_uniform_finite (hReferenceIdeal := hReferenceIdeal) (hPre_uniform_finite := hPre_uniform_finite)
    ∧ preserves_Kernel_KernelIdeal
    ∧ algebraic_KernelIdeal_ReferenceIdeal_pre_uniform_finite (hKernelIdeal := hKernelIdeal) (hReferenceIdeal := hReferenceIdeal) (hPre_uniform_finite := hPre_uniform_finite)
-- ==== Pre_uniform_finite.lean ====
abbrev S2048x8192 : Shape := ⟨2, ![2048, 8192]⟩
abbrev S8192 : Shape := ⟨1, ![8192]⟩
abbrev S_ : Shape := ⟨0, ![]⟩
abbrev S1x8192 : Shape := ⟨2, ![1, 8192]⟩

class Facts : Prop where
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  reducesTo_S2048x8192_S_d0_1 : S2048x8192.ReducesTo [0, 1] S_
  h_S_ : 0 < S_.numel
  bcast_S_S2048x8192 : S_.BroadcastsInDim S2048x8192 (![] : Fin 0 → Fin S2048x8192.rank)

variable [Facts]

def fn {F : FTy → Type} [FloatOps F] (main_arg0 : FVec F S2048x8192 .f32) (main_arg1 : FVec F S2048x8192 .f32) (main_arg2 : FVec F S2048x8192 .f32) : IVec S_ 1 :=
  let main_v0 : FVec F S8192 .f32 := sitofp .f32 (iotaInDim S8192 32 0)
  let main_cst : FVec F S_ .f32 := constant S_ .f32 0x39000000#32
  let main_v1 : FVec F S8192 .f32 := broadcastInDim S8192 ![] bcast_S_S8192 main_cst
  let main_v2 : FVec F S8192 .f32 := mulf main_v0 main_v1
  let main_cst_0 : FVec F S_ .f32 := constant S_ .f32 0x00000000#32
  let main_v3 : FVec F S8192 .f32 := broadcastInDim S8192 ![] bcast_S_S8192 main_cst_0
  let main_v4 : FVec F S8192 .f32 := addf main_v2 main_v3
  let main_v5 : FVec F S1x8192 .f32 := broadcastInDim S1x8192 ![1] bcast_S8192_S1x8192_1 main_v4
  let main_v6 : FVec F S2048x8192 .f32 := broadcastInDim S2048x8192 ![0, 1] bcast_S1x8192_S2048x8192_0_1 main_v5
  let main_v7 : IVec S2048x8192 1 := cmpf .oeq main_arg2 main_v6
  let main_c : IVec S_ 1 := constantI S_ 1 1#1
  let main_v8 : IVec S_ 1 := (fun x v => Host.reduce IntOp.andi x v reducesTo_S2048x8192_S_d0_1 h_S_) main_v7 main_c
  let main_v9 : FVec F S2048x8192 .f32 := Host.absf main_arg0
  let main_cst_1 : FVec F S_ .f32 := constant S_ .f32 0x7F800000#32
  let main_v10 : FVec F S2048x8192 .f32 := broadcastInDim S2048x8192 ![] bcast_S_S2048x8192 main_cst_1
  let main_v11 : IVec S2048x8192 1 := cmpf .olt main_v9 main_v10
  let main_c_2 : IVec S_ 1 := constantI S_ 1 1#1
  let main_v12 : IVec S_ 1 := (fun x v => Host.reduce IntOp.andi x v reducesTo_S2048x8192_S_d0_1 h_S_) main_v11 main_c_2
  let main_v13 : IVec S_ 1 := andi main_v8 main_v12
  main_v13
-- ==== Kernel.lean ====
abbrev S2048x8192 : Shape := ⟨2, ![2048, 8192]⟩
abbrev S8192 : Shape := ⟨1, ![8192]⟩
abbrev S_ : Shape := ⟨0, ![]⟩
abbrev S1x8192 : Shape := ⟨2, ![1, 8192]⟩
abbrev S16 : Shape := ⟨1, ![16]⟩

abbrev nBuf : Table → Nat
  | .hbm => 4
  | .local .scVector .vmem => 6
  | _ => 0

abbrev bufTy : (tb : Table) → Fin (nBuf tb) → BufTy
  | .hbm, ⟨0, _⟩ => ⟨S2048x8192, .f32⟩
  | .hbm, ⟨1, _⟩ => ⟨S2048x8192, .f32⟩
  | .hbm, ⟨2, _⟩ => ⟨S2048x8192, .f32⟩
  | .hbm, ⟨3, _⟩ => ⟨S2048x8192, .f32⟩
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S8192, .f32⟩
  | .local .scVector .vmem, ⟨4, _⟩ => ⟨S8192, .f32⟩
  | .local .scVector .vmem, ⟨5, _⟩ => ⟨S8192, .f32⟩
  | _, _ => ⟨S2048x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32 : BitVec 32 := 0#32
  ![v2.toNat, 0]
@[reducible] def k0_t1_loop : Scf.Loop 32 :=
  let c0_i32_4 : BitVec 32 := 0#32
  let c32_i32 : BitVec 32 := 32#32
  let v11 : BitVec 32 := Scalar.addi c0_i32_4 c32_i32
  let c1_i32 : BitVec 32 := 1#32
  ⟨c0_i32_4, v11, c1_i32⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_4 : BitVec 32 := 0#32
  let c1_i32 : BitVec 32 := 1#32
  let arg17 : BitVec 32 := Scf.iv c0_i32_4 c1_i32 k0_t1
  let c2_i32_13 : BitVec 32 := 2#32
  let v23 : BitVec 32 := Scalar.muli arg17 c2_i32_13
  let c0_i32_14 : BitVec 32 := 0#32
  let v24 : BitVec 32 := Scalar.addi v23 c0_i32_14
  let v25 : BitVec 32 := Scalar.addi v2 v24
  let c1_i32_15 : BitVec 32 := 1#32
  let v26 : BitVec 32 := Scalar.addi v25 c1_i32_15
  let c0_i32_16 : BitVec 32 := 0#32
  ![v26.toNat, 0]
def k0_off3 (i : grid0.Coords) (k0_t1 : Fin k0_t1_loop.trips) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_4 : BitVec 32 := 0#32
  let c1_i32 : BitVec 32 := 1#32
  let arg17 : BitVec 32 := Scf.iv c0_i32_4 c1_i32 k0_t1
  let c2_i32_13 : BitVec 32 := 2#32
  let v23 : BitVec 32 := Scalar.muli arg17 c2_i32_13
  let v24 : BitVec 32 := Scalar.addi v23 c0_i32_14
  let v25 : BitVec 32 := Scalar.addi v2 v24
  let c0_i32_21 : BitVec 32 := 0#32
  ![v25.toNat, 0]
def k0_cond1 (k0_t1 : Fin k0_t1_loop.trips) : BitVec 1 :=
  let c0_i32_4 : BitVec 32 := 0#32
  let c1_i32 : BitVec 32 := 1#32
  let arg17 : BitVec 32 := Scf.iv c0_i32_4 c1_i32 k0_t1
  let c0_i32_25 : BitVec 32 := 0#32
  let v44 : BitVec 1 := Scalar.cmpi .sgt arg17 c0_i32_25
  let v45 : BitVec 32 := Scalar.extui v44
  let c0_i32_26 : BitVec 32 := 0#32
  let v46 : BitVec 1 := Scalar.cmpi .ne v45 c0_i32_26
  v46

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_4 : BitVec 32 := 0#32
  let c1_i32 : BitVec 32 := 1#32
  let arg17 : BitVec 32 := Scf.iv c0_i32_4 c1_i32 k0_t1
  let c2_i32_13 : BitVec 32 := 2#32
  let v23 : BitVec 32 := Scalar.muli arg17 c2_i32_13
  let c0_i32_14 : BitVec 32 := 0#32
  let v24 : BitVec 32 := Scalar.addi v23 c0_i32_14
  let v25 : BitVec 32 := Scalar.addi v2 v24
  let c2_i32_47 : BitVec 32 := 2#32
  let v74 : BitVec 32 := Scalar.subi v25 c2_i32_47
  let c0_i32_48 : BitVec 32 := 0#32
  ![v74.toNat, 0]
@[reducible] def k0_t2_loop : Scf.Loop 32 :=
  let c0_i32_27 : BitVec 32 := 0#32
  let c512_i32 : BitVec 32 := 512#32
  let v47 : BitVec 32 := Scalar.addi c0_i32_27 c512_i32
  let c1_i32_28 : BitVec 32 := 1#32
  ⟨c0_i32_27, v47, c1_i32_28⟩
def k0_off5 (k0_t2 : Fin k0_t2_loop.trips) : Fin 1 → Nat :=
  let c0_i32_47 : BitVec 32 := 0#32
  let c0_i32_27 : BitVec 32 := 0#32
  let c1_i32_28 : BitVec 32 := 1#32
  let arg18 : BitVec 32 := Scf.iv c0_i32_27 c1_i32_28 k0_t2
  let c16_i32 : BitVec 32 := 16#32
  let v74 : BitVec 32 := Scalar.muli arg18 c16_i32
  let v75 : BitVec 32 := Scalar.addi c0_i32_47 v74
  let v76 : Index := Scalar.indexCast v75
  ![v76.toNat]

def k0_chk1 (v89 : IVec S16 32) : Prop :=
  (∀ a x, ((![v89] : Fin 1 → IVec S16 32) a x).toNat < S8192.size a)
theorem k0_idx1_inb : ∀ (v89 : IVec S16 32) (k0_hw1 : k0_chk1 v89), ∀ a x, ((![v89] : Fin 1 → IVec S16 32) a x).toNat < S8192.size a := fun v89 k0_hw1 => k0_hw1

def k0_chk2 (v92 : IVec S16 32) : Prop :=
  (∀ a x, ((![v92] : Fin 1 → IVec S16 32) a x).toNat < S8192.size a)
theorem k0_idx2_inb : ∀ (v92 : IVec S16 32) (k0_hw2 : k0_chk2 v92), ∀ a x, ((![v92] : Fin 1 → IVec S16 32) a x).toNat < S8192.size a := fun v92 k0_hw2 => k0_hw2
def k0_off6 (k0_t2 : Fin k0_t2_loop.trips) : Fin 1 → Nat :=
  let c0_i32_47 : BitVec 32 := 0#32
  let c0_i32_27 : BitVec 32 := 0#32
  let c1_i32_28 : BitVec 32 := 1#32
  let arg18 : BitVec 32 := Scf.iv c0_i32_27 c1_i32_28 k0_t2
  let c16_i32 : BitVec 32 := 16#32
  let v74 : BitVec 32 := Scalar.muli arg18 c16_i32
  let v75 : BitVec 32 := Scalar.addi c0_i32_47 v74
  let v106 : Index := Scalar.indexCast v75
  ![v106.toNat]
def k0_cond2 (k0_t1 : Fin k0_t1_loop.trips) : BitVec 1 :=
  let c0_i32_4 : BitVec 32 := 0#32
  let c1_i32 : BitVec 32 := 1#32
  let arg17 : BitVec 32 := Scf.iv c0_i32_4 c1_i32 k0_t1
  let c31_i32 : BitVec 32 := 31#32
  let v55 : BitVec 1 := Scalar.cmpi .slt arg17 c31_i32
  let v56 : BitVec 32 := Scalar.extui v55
  let c0_i32_34 : BitVec 32 := 0#32
  let v57 : BitVec 1 := Scalar.cmpi .ne v56 c0_i32_34
  v57

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_4 : BitVec 32 := 0#32
  let c1_i32 : BitVec 32 := 1#32
  let arg17 : BitVec 32 := Scf.iv c0_i32_4 c1_i32 k0_t1
  let c2_i32_32 : BitVec 32 := 2#32
  let v52 : BitVec 32 := Scalar.muli arg17 c2_i32_32
  let c1_i32_33 : BitVec 32 := 1#32
  let v53 : BitVec 32 := Scalar.addi v52 c1_i32_33
  let v54 : BitVec 32 := Scalar.addi v2 v53
  let c1_i32_47 : BitVec 32 := 1#32
  let v74 : BitVec 32 := Scalar.addi v54 c1_i32_47
  let c0_i32_48 : BitVec 32 := 0#32
  ![v74.toNat, 0]
def k0_cond3 (k0_t1 : Fin k0_t1_loop.trips) : BitVec 1 :=
  let c0_i32_4 : BitVec 32 := 0#32
  let c1_i32 : BitVec 32 := 1#32
  let arg17 : BitVec 32 := Scf.iv c0_i32_4 c1_i32 k0_t1
  let c0_i32_39 : BitVec 32 := 0#32
  let v66 : BitVec 1 := Scalar.cmpi .sgt arg17 c0_i32_39
  let v67 : BitVec 32 := Scalar.extui v66
  let c0_i32_40 : BitVec 32 := 0#32
  let v68 : BitVec 1 := Scalar.cmpi .ne v67 c0_i32_40
  v68

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_4 : BitVec 32 := 0#32
  let c1_i32 : BitVec 32 := 1#32
  let arg17 : BitVec 32 := Scf.iv c0_i32_4 c1_i32 k0_t1
  let c2_i32_32 : BitVec 32 := 2#32
  let v52 : BitVec 32 := Scalar.muli arg17 c2_i32_32
  let c1_i32_33 : BitVec 32 := 1#32
  let v53 : BitVec 32 := Scalar.addi v52 c1_i32_33
  let v54 : BitVec 32 := Scalar.addi v2 v53
  let c2_i32_47 : BitVec 32 := 2#32
  let v74 : BitVec 32 := Scalar.subi v54 c2_i32_47
  let c0_i32_48 : BitVec 32 := 0#32
  ![v74.toNat, 0]
@[reducible] def k0_t3_loop : Scf.Loop 32 :=
  let c0_i32_41 : BitVec 32 := 0#32
  let c512_i32_42 : BitVec 32 := 512#32
  let v69 : BitVec 32 := Scalar.addi c0_i32_41 c512_i32_42
  let c1_i32_43 : BitVec 32 := 1#32
  ⟨c0_i32_41, v69, c1_i32_43⟩
def k0_off9 (k0_t3 : Fin k0_t3_loop.trips) : Fin 1 → Nat :=
  let c0_i32_47 : BitVec 32 := 0#32
  let c0_i32_41 : BitVec 32 := 0#32
  let c1_i32_43 : BitVec 32 := 1#32
  let arg18 : BitVec 32 := Scf.iv c0_i32_41 c1_i32_43 k0_t3
  let c16_i32 : BitVec 32 := 16#32
  let v74 : BitVec 32 := Scalar.muli arg18 c16_i32
  let v75 : BitVec 32 := Scalar.addi c0_i32_47 v74
  let v76 : Index := Scalar.indexCast v75
  ![v76.toNat]

def k0_chk3 (v89 : IVec S16 32) : Prop :=
  (∀ a x, ((![v89] : Fin 1 → IVec S16 32) a x).toNat < S8192.size a)
theorem k0_idx3_inb : ∀ (v89 : IVec S16 32) (k0_hw3 : k0_chk3 v89), ∀ a x, ((![v89] : Fin 1 → IVec S16 32) a x).toNat < S8192.size a := fun v89 k0_hw3 => k0_hw3

def k0_chk4 (v92 : IVec S16 32) : Prop :=
  (∀ a x, ((![v92] : Fin 1 → IVec S16 32) a x).toNat < S8192.size a)
theorem k0_idx4_inb : ∀ (v92 : IVec S16 32) (k0_hw4 : k0_chk4 v92), ∀ a x, ((![v92] : Fin 1 → IVec S16 32) a x).toNat < S8192.size a := fun v92 k0_hw4 => k0_hw4
def k0_off10 (k0_t3 : Fin k0_t3_loop.trips) : Fin 1 → Nat :=
  let c0_i32_47 : BitVec 32 := 0#32
  let c0_i32_41 : BitVec 32 := 0#32
  let c1_i32_43 : BitVec 32 := 1#32
  let arg18 : BitVec 32 := Scf.iv c0_i32_41 c1_i32_43 k0_t3
  let c16_i32 : BitVec 32 := 16#32
  let v74 : BitVec 32 := Scalar.muli arg18 c16_i32
  let v75 : BitVec 32 := Scalar.addi c0_i32_47 v74
  let v106 : Index := Scalar.indexCast v75
  ![v106.toNat]
def k0_off11 (i : grid0.Coords) (c2_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c64_i32_6 : BitVec 32 := 64#32
  let v12 : BitVec 32 := Scalar.addi v2 c64_i32_6
  let v13 : BitVec 32 := Scalar.subi v12 c2_i32_7
  let c0_i32_8 : BitVec 32 := 0#32
  ![v13.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x8192 : Shape := ⟨2, ![2048, 8192]⟩
abbrev S2048x1x8192 : Shape := ⟨3, ![2048, 1, 8192]⟩
abbrev S2048x8192x1 : Shape := ⟨3, ![2048, 8192, 1]⟩
abbrev S2048x8192x8192 : Shape := ⟨3, ![2048, 8192, 8192]⟩
abbrev S_ : Shape := ⟨0, ![]⟩
abbrev S2048x8191 : Shape := ⟨2, ![2048, 8191]⟩
abbrev S1 : Shape := ⟨1, ![1]⟩
abbrev S1x1x1 : Shape := ⟨3, ![1, 1, 1]⟩
abbrev S2048x1 : Shape := ⟨2, ![2048, 1]⟩

abbrev nBuf : Space → Nat
  | .hbm => 109
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x8192, .f32⟩
  | .hbm, ⟨3, _⟩ => ⟨S2048x1x8192, .f32⟩
  | .hbm, ⟨4, _⟩ => ⟨S2048x8192x1, .f32⟩
  | .hbm, ⟨5, _⟩ => ⟨S2048x8192x8192, .f32⟩
  | .hbm, ⟨6, _⟩ => ⟨S2048x8192x8192, .f32⟩
  | .hbm, ⟨7, _⟩ => ⟨S2048x8192x8192, .i1⟩
  | .hbm, ⟨8, _⟩ => ⟨S2048x8192x8192, .i32⟩
  | .hbm, ⟨9, _⟩ => ⟨S_, .i32⟩
  | .hbm, ⟨10, _⟩ => ⟨S2048x8192, .i32⟩
  | .hbm, ⟨11, _⟩ => ⟨S_, .i32⟩
  | .hbm, ⟨12, _⟩ => ⟨S2048x8192, .i32⟩
  | .hbm, ⟨13, _⟩ => ⟨S2048x8192, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S2048x8192, .i32⟩
  | .hbm, ⟨18, _⟩ => ⟨S2048x8192, .i32⟩
  | .hbm, ⟨19, _⟩ => ⟨S_, .i32⟩
  | .hbm, ⟨20, _⟩ => ⟨S2048x8192, .i32⟩
  | .hbm, ⟨21, _⟩ => ⟨S2048x8192, .i32⟩
  | .hbm, ⟨22, _⟩ => ⟨S2048x8191, .f32⟩
  | .hbm, ⟨23, _⟩ => ⟨S2048x8191, .f32⟩
  | .hbm, ⟨24, _⟩ => ⟨S2048x8191, .f32⟩
  | .hbm, ⟨25, _⟩ => ⟨S2048x8191, .f32⟩
  | .hbm, ⟨26, _⟩ => ⟨S2048x8191, .f32⟩
  | .hbm, ⟨27, _⟩ => ⟨S2048x8191, .f32⟩
  | .hbm, ⟨28, _⟩ => ⟨S2048x8191, .f32⟩
  | .hbm, ⟨29, _⟩ => ⟨S_, .i32⟩
  | .hbm, ⟨30, _⟩ => ⟨S2048x8192, .i32⟩
  | .hbm, ⟨31, _⟩ => ⟨S2048x8192, .i1⟩
  | .hbm, ⟨32, _⟩ => ⟨S_, .i32⟩
  | .hbm, ⟨33, _⟩ => ⟨S2048x8192, .i32⟩
  | .hbm, ⟨34, _⟩ => ⟨S2048x8192, .i32⟩
  | .hbm, ⟨35, _⟩ => ⟨S2048x8192, .i32⟩
  | .hbm, ⟨36, _⟩ => ⟨S2048x8192x1, .i32⟩
  | .hbm, ⟨37, _⟩ => ⟨S1, .i32⟩
  | .hbm, ⟨38, _⟩ => ⟨S_, .i32⟩
  | .hbm, ⟨39, _⟩ => ⟨S2048x8192x1, .i32⟩
  | .hbm, ⟨40, _⟩ => ⟨S2048x8192x1, .i1⟩
  | .hbm, ⟨41, _⟩ => ⟨S1x1x1, .i32⟩
  | .hbm, ⟨42, _⟩ => ⟨S2048x8192x1, .i32⟩
  | .hbm, ⟨43, _⟩ => ⟨S2048x8192x1, .i1⟩
  | .hbm, ⟨44, _⟩ => ⟨S2048x8192x1, .i1⟩
  | .hbm, ⟨45, _⟩ => ⟨S_, .i1⟩
  | .hbm, ⟨46, _⟩ => ⟨S2048x8192, .i1⟩
  | .hbm, ⟨47, _⟩ => ⟨S2048x8192, .f32⟩
  | .hbm, ⟨48, _⟩ => ⟨S_, .f32⟩
  | .hbm, ⟨49, _⟩ => ⟨S2048x8192, .f32⟩
  | .hbm, ⟨50, _⟩ => ⟨S2048x8192, .f32⟩
  | .hbm, ⟨51, _⟩ => ⟨S_, .i32⟩
  | .hbm, ⟨52, _⟩ => ⟨S2048x8192, .i32⟩
  | .hbm, ⟨53, _⟩ => ⟨S2048x8192, .i1⟩
  | .hbm, ⟨54, _⟩ => ⟨S_, .i32⟩
  | .hbm, ⟨55, _⟩ => ⟨S2048x8192, .i32⟩
  | .hbm, ⟨56, _⟩ => ⟨S2048x8192, .i32⟩
  | .hbm, ⟨57, _⟩ => ⟨S2048x8192, .i32⟩
  | .hbm, ⟨58, _⟩ => ⟨S2048x8192x1, .i32⟩
  | .hbm, ⟨59, _⟩ => ⟨S1, .i32⟩
  | .hbm, ⟨60, _⟩ => ⟨S_, .i32⟩
  | .hbm, ⟨61, _⟩ => ⟨S2048x8192x1, .i32⟩
  | .hbm, ⟨62, _⟩ => ⟨S2048x8192x1, .i1⟩
  | .hbm, ⟨63, _⟩ => ⟨S1x1x1, .i32⟩
  | .hbm, ⟨64, _⟩ => ⟨S2048x8192x1, .i32⟩
  | .hbm, ⟨65, _⟩ => ⟨S2048x8192x1, .i1⟩
  | .hbm, ⟨66, _⟩ => ⟨S2048x8192x1, .i1⟩
  | .hbm, ⟨67, _⟩ => ⟨S_, .i1⟩
  | .hbm, ⟨68, _⟩ => ⟨S2048x8192, .i1⟩
  | .hbm, ⟨69, _⟩ => ⟨S2048x8192, .f32⟩
  | .hbm, ⟨70, _⟩ => ⟨S_, .f32⟩
  | .hbm, ⟨71, _⟩ => ⟨S2048x8192, .f32⟩
  | .hbm, ⟨72, _⟩ => ⟨S2048x8192, .f32⟩
  | .hbm, ⟨73, _⟩ => ⟨S_, .i32⟩
  | .hbm, ⟨74, _⟩ => ⟨S2048x8192, .i32⟩
  | .hbm, ⟨75, _⟩ => ⟨S2048x8192, .i1⟩
  | .hbm, ⟨76, _⟩ => ⟨S_, .i32⟩
  | .hbm, ⟨77, _⟩ => ⟨S2048x8192, .i32⟩
  | .hbm, ⟨78, _⟩ => ⟨S2048x8192, .i32⟩
  | .hbm, ⟨79, _⟩ => ⟨S2048x8192, .i32⟩
  | .hbm, ⟨80, _⟩ => ⟨S2048x8192x1, .i32⟩
  | .hbm, ⟨81, _⟩ => ⟨S1, .i32⟩
  | .hbm, ⟨82, _⟩ => ⟨S_, .i32⟩
  | .hbm, ⟨83, _⟩ => ⟨S2048x8192x1, .i32⟩
  | .hbm, ⟨84, _⟩ => ⟨S2048x8192x1, .i1⟩
  | .hbm, ⟨85, _⟩ => ⟨S1x1x1, .i32⟩
  | .hbm, ⟨86, _⟩ => ⟨S2048x8192x1, .i32⟩
  | .hbm, ⟨87, _⟩ => ⟨S2048x8192x1, .i1⟩
  | .hbm, ⟨88, _⟩ => ⟨S2048x8192x1, .i1⟩
  | .hbm, ⟨89, _⟩ => ⟨S_, .i1⟩
  | .hbm, ⟨90, _⟩ => ⟨S2048x8192, .i1⟩
  | .hbm, ⟨91, _⟩ => ⟨S2048x8192, .f32⟩
  | .hbm, ⟨92, _⟩ => ⟨S_, .f32⟩
  | .hbm, ⟨93, _⟩ => ⟨S2048x8192, .f32⟩
  | .hbm, ⟨94, _⟩ => ⟨S2048x8192, .f32⟩
  | .hbm, ⟨95, _⟩ => ⟨S2048x8192, .f32⟩
  | .hbm, ⟨96, _⟩ => ⟨S2048x8192, .f32⟩
  | .hbm, ⟨97, _⟩ => ⟨S2048x8192, .f32⟩
  | .hbm, ⟨98, _⟩ => ⟨S2048x1, .f32⟩
  | .hbm, ⟨99, _⟩ => ⟨S2048x8192, .f32⟩
  | .hbm, ⟨100, _⟩ => ⟨S2048x8192, .i1⟩
  | .hbm, ⟨101, _⟩ => ⟨S2048x1, .f32⟩
  | .hbm, ⟨102, _⟩ => ⟨S2048x8192, .f32⟩
  | .hbm, ⟨103, _⟩ => ⟨S2048x8192, .i1⟩
  | .hbm, ⟨104, _⟩ => ⟨S2048x8192, .i1⟩
  | .hbm, ⟨105, _⟩ => ⟨S_, .f32⟩
  | .hbm, ⟨106, _⟩ => ⟨S_, .f32⟩
  | .hbm, ⟨107, _⟩ => ⟨S2048x8192, .f32⟩
  | .hbm, ⟨108, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v17 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v18 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_cst : Ref sig .tc := ⟨.hbm, 92, rfl⟩
abbrev main_call3_v14 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_cst : Ref sig .tc := ⟨.hbm, 105, rfl⟩
abbrev main_call4_v0 : Ref sig .tc := ⟨.hbm, 106, rfl⟩
abbrev main_call4_v1 : Ref sig .tc := ⟨.hbm, 107, rfl⟩
abbrev main_v30 : Ref sig .tc := ⟨.hbm, 108, rfl⟩

abbrev nD : Nat := 1
abbrev τ : Topo := Topo.v7x

variable {F : FTy → Type} [FloatOps F]
-- ==== Proof.Cells.lean ====
/-
  Resources of one vector subcore, spoken of by what a view READS: `Holds c M v` is the whole of the memref `M`'s
  elements, reading `v`. The rules of this kernel's operations (a load, an indexed load, a store of sixteen lanes, a copy and
  its wait) are restated over it, so that the later proofs never mention a buffer's contents but only what its views read.
-/
module

public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Interp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the resource algebra -/

/-- The labels of the program's calls. -/
abbrev ΛP : Labels := Pipeline.Sig Λ₀ (Fin 0) fun p => (pcfgs (F := F) p).Adm
/-- The SparseCore call's configuration. -/
abbrev K : SparseCore.Cfg τ sig (ΛP (F := F)) 1 := sc (F := F)
/-- The bodies the calls run. -/
abbrev D [FloatOps F] : Defs nD τ sig (Elt F) (ΛP (F := F)) := Pipeline.defs pcfgs defs₀
/-- No loop variants are needed. -/
abbrev 𝒱₀ : Variants := Variants.none
/-- The variants, lifted to the program's labels. -/
abbrev 𝒱 : Variants := 𝒱₀.lift
/-- The one variant. -/
abbrev v₀ : 𝒱.V := Sum.inl none

/-- The handshakes' ghost state. -/
abbrev UH : Type := URounds (GSem nD τ sig) ℕ
/-- The handshakes' ghost state beside the copies' counters. -/
abbrev UU : Type := UH × Counters

local notation "𝕄" => MT nD τ sig (HIx 1) (Elt F) ℕ UU ℕ

/-- The handshakes' part of the ghost state. -/
abbrev EH : Emb UH (MT nD τ sig (HIx 1) (Elt F) ℕ UU ℕ) := embL
/-- The counters' part of the ghost state. -/
abbrev EC : UEmb Counters (MT nD τ sig (HIx 1) (Elt F) ℕ UU ℕ) := countersEmb

/-! ## A memref's elements, by what they read -/

section Cells

variable [FloatOps F] (c : Thread nD τ) (bd : Option 𝒱₀.V)

/-- The elements of the memref `M`, whole, on thread `c`, reading `v`. -/
def Holds {sp : Space} {s : Shape} {e : EltTy} (M : Memref sig c.2.kind sp s e) (v : s.Idx → Elt F e) : sProp 𝕄 :=
  iprop(∃ f, ⌜M.view.read (Elt F) f = v⌝ ∗ (M.view.loc c ↦[M.view.set]{fullShare} f))

/-- The elements of the memref `M`, whole, at some contents. -/
def Owned {sp : Space} {s : Shape} {e : EltTy} (M : Memref sig c.2.kind sp s e) : sProp 𝕄 :=
  iprop(∃ v, Holds (F := F) c M v)

omit [FloatOps F] in
/-- Reading something, the elements are owned. -/
theorem Holds.owned {sp : Space} {s : Shape} {e : EltTy} {M : Memref sig c.2.kind sp s e} {v : s.Idx → Elt F e} :
    Holds c M v ⊢ Owned c M := by
  unfold Owned; iintro H; iexists _; iexact H

omit [FloatOps F] in
/-- A points-to of a memref's elements holds what it reads. -/
theorem Holds.intro {sp : Space} {s : Shape} {e : EltTy} {M : Memref sig c.2.kind sp s e} (f : Buf (Elt F) (M.view.loc c)) :
    (M.view.loc c ↦[M.view.set]{fullShare} f : sProp 𝕄) ⊢ Holds c M (M.view.read (Elt F) f) := by
  unfold Holds; iintro H; iexists f; isplitr; · ipureintro; rfl
  iexact H

/-- A load through a rectangle of the memref continues at what the memref reads under the rectangle. -/
theorem load_holds {cs : CoreSpace} {s : Shape} {e : EltTy} {m : Memref sig c.2.kind cs s e} {r : Rect s}
    {hl : m.view.LoadsAt r.toLoadRect} {α : Type} {Q : α → sProp 𝕄}
    {k : (r.shape.Idx → Elt F e) → Prog (TpuEff nD τ sig (Elt F) Λ₀ c.2) α} {v : s.Idx → Elt F e} :
    Holds c m v
      ⊢ iprop((Holds c m v -∗ wp frame (wpE (defs₀ (F := F)) 𝒱₀ c bd) Set.univ (k fun x => v (r.emb x)) Q)
        -∗ wp frame (wpE (defs₀ (F := F)) 𝒱₀ c bd) Set.univ (.op (.load m r.toLoadRect hl) k) Q) := by
  unfold Holds
  iintro ⟨%f, %hf, H⟩ Hk
  iapply (wp_load 𝒱₀ c bd Set.univ (m := m) (S := m.view.set) (View.setOn_subset_set _ _)) $$ H
  iintro H
  rw [show (m.view.readAt (Elt F) r.toLoadRect f) = fun x => v (r.emb x) from by subst hf; rfl]
  iapply Hk
  iexists f; isplitr; · ipureintro; exact hf
  iexact H

/-- An indexed load continues at the memref's reading under the indices. -/
theorem loadIdx_holds {s t : Shape} {e : EltTy} {m : Memref sig c.2.kind .vmem s e} {α : Type} {Q : α → sProp 𝕄}
    {idxs : Fin s.rank → IVec t 32} {h : ∀ a x, (idxs a x).toNat < s.size a} {hl : m.view.Loads}
    {k : Vec F t e → Prog (TpuEff nD τ sig (Elt F) Λ₀ c.2) α} {v : s.Idx → Elt F e} :
    Holds c m v
      ⊢ iprop((Holds c m v -∗ wp frame (wpE (defs₀ (F := F)) 𝒱₀ c bd) Set.univ (k (loadIdx v idxs h)) Q)
        -∗ wp frame (wpE (defs₀ (F := F)) 𝒱₀ c bd) Set.univ (SparseCore.vectorLoadIdx m idxs h hl >>= k) Q) := by
  unfold Holds
  iintro ⟨%f, %hf, H⟩ Hk
  iapply (SparseCore.wp_vectorLoadIdx 𝒱₀ c bd Set.univ (base := m) (S := m.view.set) (View.set_slice_subset _ _)) $$ H
  iintro H
  rw [show ((m.access (.whole s)).read (Elt F) f) = v from by
    subst hf; funext x
    show m.view.read (Elt F) f ((Rect.whole s).emb x) = _
    rw [Rect.emb_whole_apply]]
  iapply Hk
  iexists f; isplitr; · ipureintro; exact hf
  iexact H

/-- A store of a whole rectangle of the memref leaves the memref reading the stored values under the rectangle and what it
    read elsewhere. -/
theorem store_holds {cs : CoreSpace} {s : Shape} {e : EltTy} {m : Memref sig c.2.kind cs s e} {r : Rect s} {α : Type} {Q : α → sProp 𝕄}
    {w : r.shape.Idx → Elt F e} {hx : (m.access r).Stores Finset.univ} {hm : _}
    {k : PUnit → Prog (TpuEff nD τ sig (Elt F) Λ₀ c.2) α} {v : s.Idx → Elt F e} :
    Holds c m v
      ⊢ iprop(((∃ v', ⌜(∀ x, v' (r.emb x) = w x) ∧ ∀ y, y ∉ r.set → v' y = v y⌝ ∗ Holds c m v')
          -∗ wp frame (wpE (defs₀ (F := F)) 𝒱₀ c bd) Set.univ (k ⟨⟩) Q)
        -∗ wp frame (wpE (defs₀ (F := F)) 𝒱₀ c bd) Set.univ (.op (.store m r w Finset.univ hx hm) k) Q) := by
  unfold Holds
  iintro ⟨%f, %hf, H⟩ Hk
  iapply (wp_store 𝒱₀ c bd Set.univ (m := m) (r := r) (S := m.view.set) (View.set_slice_subset _ _)) $$ H
  iintro H
  iapply Hk
  iexists (m.view.read (Elt F) ((m.access r).write (Elt F) f w Finset.univ))
  isplitr
  · ipureintro
    refine ⟨fun x => View.read_slice_write_emb r f w (Finset.mem_univ x), fun y hy => ?_⟩
    subst hf
    exact View.read_slice_write_of_not_mem r f w Finset.univ (by rwa [Rect.map_emb_univ])
  iexists _; isplitr; · ipureintro; rfl
  iexact H

open Transfers in
/-- A local copy issued on a cell at zero: its flight delivers the destination reading what the source reads, and the source. -/
theorem issue_holds {sp sp' : Space} {s : Shape} {e : EltTy} {src : Memref sig c.2.kind sp s e} {dst : Memref sig c.2.kind sp' s e}
    {sem : DmaSem sig} {hsrc : src.view.WordExact} {hdst : dst.view.WordExact}
    {hsem : DmaTarget.Typed (nD := nD) sp (.dma sem) (.here dst)} {α : Type} {Q : α → sProp 𝕄}
    {k : PUnit → Prog (TpuEff nD τ sig (Elt F) Λ₀ c.2) α} {v : s.Idx → Elt F e} (hs : 0 < s.numel) :
    iprop(Holds c src v ∗ Owned c dst ∗ semVal (c, .dma sem) 0)
      ⊢ iprop((Flight EC c (.dma sem) (default : HIx 1) dst.view.dmaCredit iprop(Holds c dst v ∗ Holds c src v)
            -∗ wp frame (wpE (defs₀ (F := F)) 𝒱₀ c bd) Set.univ (k ⟨⟩) Q)
          -∗ wp frame (wpE (defs₀ (F := F)) 𝒱₀ c bd) Set.univ (.op (.enqueueDma src (.here dst) (.dma sem) hsrc hdst hsem) k) Q) := by
  unfold Owned Holds
  iintro ⟨⟨%f, %hf, Hs⟩, ⟨%v', %g, -, Hd⟩, Hv⟩ Hk
  iapply (wp_dmaLocal EC 𝒱₀ c bd (default : HIx 1) dst.view.dmaCredit (View.amount_dma _ _) (View.dmaCredit_pos _ hs) (Finset.Subset.refl _)) $$ [Hs Hd Hv]
  · isplitl [Hs]; · iexact Hs
    isplitl [Hd]; · iexact Hd
    iexact Hv
  iintro HF
  iapply Hk
  iapply (Flight_mono EC c (?_)) $$ HF
  iintro ⟨Hd, Hs⟩
  isplitl [Hd]
  · iexists (dst.view.write (Elt F) g (src.view.read (Elt F) f) Finset.univ); isplitr
    · ipureintro; exact (View.read_write_univ _ _).trans hf
    iexact Hd
  iexists f; isplitr; · ipureintro; exact hf
  iexact Hs

open Transfers in
/-- A wait on a local copy's cell, under anything owed that lies above it: what the copy delivers, the cell at zero. -/
theorem wait_holds {sp sp' : Space} {s s' : Shape} {e e' : EltTy} {κ' : Kind} {sem : DmaSem sig} {srcw : Memref sig c.2.kind sp' s' e'}
    {dstw : Memref sig κ' sp s e} {hsrc : srcw.view.WordExact} {hdst : dstw.view.WordExact} {α : Type} {Q : α → sProp 𝕄}
    {k : PUnit → Prog (TpuEff nD τ sig (Elt F) Λ₀ c.2) α} {N : ℕ} (hN : dstw.view.dmaCredit = N) {R : sProp 𝕄}
    {O : CellTallies nD τ sig (HIx 1)} :
    iprop(Flight EC c (.dma sem) (default : HIx 1) N R ∗ (∃ W, owes c O W) ∗ MayWaits c (default : HIx 1) O)
      ⊢ iprop((iprop(R ∗ semVal (c, .dma sem) 0 ∗ ∃ W, owes c O W) -∗ wp frame (wpE (defs₀ (F := F)) 𝒱₀ c bd) Set.univ (k ⟨⟩) Q)
          -∗ wp frame (wpE (defs₀ (F := F)) 𝒱₀ c bd) Set.univ (.op (.waitDma2 sem srcw dstw hsrc hdst) k) Q) := by
  iintro ⟨HF, ⟨%W, HO⟩, Hm⟩ Hk
  iapply (wp_waitLocalO EC 𝒱₀ c bd (default : HIx 1) hN) $$ [HF HO Hm]
  · isplitl [HF]; · iexact HF
    isplitl [HO]; · iexact HO
    iapply (MayWaits.elim (.dma sem)); iexact Hm
  iintro ⟨HR, Hv, HO⟩
  iapply Hk
  isplitl [HR]; · iexact HR
  isplitl [Hv]; · iexact Hv
  iexists _; iexact HO

end Cells

end Cert.Proof.Interp

end
-- ==== Proof.Inner.lean ====
/-
  The two inner loops of the SparseCore kernel: over one row of 8192 values, sixteen at a time, each trip stores the
  interpolated values of its lanes. One triple, over any memrefs, serves both loops.
-/
module

public import proofs.«01_k».proof.Proof.Cells

@[expose] public section

set_option maxRecDepth 16384

noncomputable section

namespace Cert.Proof.Interp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## One lane -/

section Lane

variable [FloatOps F]

/-- A lane to speak of where the lane does not matter. -/
abbrev lane0 : S16.Idx := fun a => ⟨0, by fin_cases a; decide⟩

/-- The entry of a row that a 32-bit index names. -/
def entry (b : BitVec 32) : S8192.Idx := fun a => ⟨b.toNat % S8192.size a, Nat.mod_lt _ (by fin_cases a; decide)⟩

/-- The lower interpolation index at the wavelength `t`. -/
def lowIdx (t : F .f32) : BitVec 32 := k0_pay6 (F := F) (fun _ => t) lane0

/-- The interpolated value at the wavelength `t` of the spectrum `x`, as the kernel computes it on one lane. -/
def interp (x : S8192.Idx → F .f32) (t : F .f32) : F .f32 :=
  k0_pay8 (F := F) (fun _ => t) (fun _ => lowIdx t) (fun _ => x (entry (lowIdx t))) (fun _ => x (entry (lowIdx t + 1#32))) lane0

/-- The row of interpolated values of the spectrum `x` at the wavelengths `w`. -/
def rowOut (x w : S8192.Idx → F .f32) : S8192.Idx → F .f32 := fun j => interp x (w j)

/-- The clamp of an index to 0 … 8190, as an integer, -/
theorem clamp_toInt (z : BitVec 32) : (IntOp.minsi 8190#32 (IntOp.maxsi 0#32 z)).toInt = min 8190 (max 0 z.toInt) := by
  have h0 : (0#32 : BitVec 32).toInt = 0 := by decide
  have h1 : (8190#32 : BitVec 32).toInt = 8190 := by decide
  simp only [IntOp.minsi, IntOp.maxsi, BitVec.slt, decide_eq_true_eq]
  split_ifs <;> omega

/-- and as a natural number. -/
theorem clamp_le (z : BitVec 32) : (IntOp.minsi 8190#32 (IntOp.maxsi 0#32 z)).toNat ≤ 8190 := by
  have hc := clamp_toInt z
  have h := BitVec.toInt_eq_toNat_cond (IntOp.minsi 8190#32 (IntOp.maxsi 0#32 z))
  split at h <;> omega

/-- The lower index is at most 8190. -/
theorem lowIdx_le (t : F .f32) : (lowIdx t).toNat ≤ 8190 := clamp_le _

/-- The index after the lower one does not wrap around. -/
theorem lowIdx_succ (t : F .f32) : (lowIdx t + 1#32).toNat = (lowIdx t).toNat + 1 := by
  have := lowIdx_le t
  rw [BitVec.toNat_add]; simp; omega

/-- The first gather's indices lie within the row. -/
theorem chk_low (v : Vec F S16 .f32) : k0_chk1 (k0_pay6 v) := by
  intro a x
  have h : (k0_pay6 v x).toNat ≤ 8190 := clamp_le _
  match a with
  | 0 => exact Nat.lt_of_le_of_lt h (by decide)

/-- The second gather's indices lie within the row. -/
theorem chk_high (v : Vec F S16 .f32) : k0_chk2 (k0_pay7 (k0_pay6 v)) := by
  intro a x
  have h : (k0_pay6 v x + 1#32).toNat = (k0_pay6 v x).toNat + 1 := lowIdx_succ (v x)
  have h' : (k0_pay6 v x).toNat ≤ 8190 := clamp_le _
  match a with
  | 0 =>
    show (k0_pay6 v x + 1#32).toNat < 8192
    omega

/-- A gather's lane reads the row's entry that its index names. -/
theorem idxAt_entry (v : IVec S16 32) (h : ∀ a x, ((![v] : Fin 1 → IVec S16 32) a x).toNat < S8192.size a) (x : S16.Idx) :
    idxAt (s := S8192) ![v] h x = entry (v x) := by
  funext a
  apply Fin.ext
  match a with
  | 0 => exact (Nat.mod_eq_of_lt (h 0 x)).symm

/-- What a trip stores at a lane is the interpolated value at the lane's wavelength. -/
theorem stored_eq (x : S8192.Idx → F .f32) (v : Vec F S16 .f32) (h₁ h₂) (l : S16.Idx) :
    k0_pay8 (F := F) v (k0_pay6 v) (loadIdx (F := F) (e := .f32) (s := S8192) x ![k0_pay6 v] h₁)
      (loadIdx (F := F) (e := .f32) (s := S8192) x ![k0_pay7 (k0_pay6 v)] h₂) l = interp x (v l) := by
  have e₁ : loadIdx (F := F) (e := .f32) (s := S8192) x ![k0_pay6 v] h₁ = fun l => x (entry (lowIdx (v l))) := by
    funext l; exact congrArg x (idxAt_entry _ h₁ l)
  have e₂ : loadIdx (F := F) (e := .f32) (s := S8192) x ![k0_pay7 (k0_pay6 v)] h₂ = fun l => x (entry (lowIdx (v l) + 1#32)) := by
    funext l; exact congrArg x (idxAt_entry _ h₂ l)
  rw [e₁, e₂]
  rfl

end Lane

/-! ## The loop over a row -/

section Loop

variable [FloatOps F] (d : Dev nD) (L : grid0.Coords)

/-- The SparseCore of the grid point `L`. -/
abbrev cV (L : grid0.Coords) : Fin τ.nSC := (L 0).castLE hcore0
/-- The vector subcore of the grid point `L`, within its SparseCore. -/
abbrev jV (L : grid0.Coords) : Fin τ.nSub := (L 1).castLE hsub0
/-- The vector subcore `L` of device `d`. -/
abbrev thr : Thread nD τ := V d (cV L) (jV L)

/-- Before trip `k`: the wavelengths and the spectrum in their scratches, the first `16 k` results in theirs. -/
def innerInv (MW MX MO : Memref sig .scVector .vmem S8192 .f32) (w x : S8192.Idx → F .f32) (k : ℕ) : sProp 𝕄 :=
  iprop(Holds (thr d L) MW w ∗ Holds (thr d L) MX x
    ∗ ∃ o : S8192.Idx → Elt F .f32, ⌜∀ j : S8192.Idx, (j 0).val < 16 * k → o j = interp x (w j)⌝ ∗ Holds (thr d L) MO o)

/-- An entry outside the sixteen of offset `n` lies before or after them. -/
theorem lanes_not_mem {n : ℕ} {off : Fin 1 → ℕ} (e : off = ![n]) (h : ∀ a, off a + S16.size a ≤ S8192.size a) (j : S8192.Idx)
    (hj : j ∉ (Rect.unit (s := S8192) off S16.size h).set) : (j 0).val < n ∨ n + 16 ≤ (j 0).val := by
  subst e
  by_contra hn
  push Not at hn
  apply hj
  rw [← Rect.map_emb_univ, Finset.mem_map]
  refine ⟨fun a => ⟨(j 0).val - n, by match a with | 0 => show _ < 16; omega⟩, Finset.mem_univ _, ?_⟩
  funext a
  match a with
  | 0 =>
    apply Fin.ext
    show n + 1 * ((j 0).val - n) = (j 0).val
    omega

/-- Two spellings of the same offset place a lane at the same entry. -/
theorem lanes_congr {off off' : Fin 1 → ℕ} (e : off = off') (h : ∀ a, off a + S16.size a ≤ S8192.size a)
    (h' : ∀ a, off' a + S16.size a ≤ S8192.size a) (l : S16.Idx) :
    (Rect.unit (s := S8192) off S16.size h).emb l = (Rect.unit (s := S8192) off' S16.size h').emb l := by
  subst e; rfl

variable (arg2 : Memref sig .scVector .hbm S2048x8192 .f32) (harg2 : arg2.IsWhole) (arg3 : Memref sig .scVector .hbm S2048x8192 .f32)
  (harg3 : arg3.IsWhole) (arg4 : Memref sig .scVector .hbm S2048x8192 .f32) (harg4 : arg4.IsWhole)
  (arg5 : Memref sig .scVector .vmem S8192 .f32) (harg5 : arg5.IsWhole) (arg6 : Memref sig .scVector .vmem S8192 .f32) (harg6 : arg6.IsWhole)
  (arg7 : Memref sig .scVector .vmem S8192 .f32) (harg7 : arg7.IsWhole) (arg8 : Memref sig .scVector .vmem S8192 .f32) (harg8 : arg8.IsWhole)
  (arg9 : Memref sig .scVector .vmem S8192 .f32) (harg9 : arg9.IsWhole) (arg10 : Memref sig .scVector .vmem S8192 .f32) (harg10 : arg10.IsWhole)
  (arg11 arg12 arg13 arg14 arg15 arg16 : DmaSems sig S_) (v2 c0 c1 : BitVec 32) (t1 : Fin k0_t1_loop.trips)

/-- One trip of the first inner loop, over any memrefs. -/
theorem trip_holds (w x : S8192.Idx → F .f32) (t : Fin k0_t2_loop.trips) (u : Unit) :
    innerInv d L arg7 arg5 arg9 w x t.val
      ⊢ wp frame (wpE (defs₀ (F := F)) 𝒱₀ (thr d L) none) Set.univ
          (k0_t2_body L arg2 harg2 arg3 harg3 arg4 harg4 arg5 harg5 arg6 harg6 arg7 harg7 arg8 harg8 arg9 harg9 arg10 harg10
            arg11 arg12 arg13 arg14 arg15 arg16 v2 c0 c1 t1 t u)
          fun _ => innerInv d L arg7 arg5 arg9 w x (t.val + 1) := by
  unfold k0_t2_body innerInv
  simp only [Prog.lift, Prog.bind_op, Prog.bind_ret, Prog.pure_eq_ret, Prog.bind_assoc]
  iintro ⟨Hw, Hx, ⟨%o, %ho, Ho⟩⟩
  iapply (load_holds (thr d L) none) $$ Hw
  iintro Hw
  rw [wp_assume_of _ _ _ _ (chk_low _)]
  iapply (loadIdx_holds (thr d L) none) $$ Hx
  iintro Hx
  rw [wp_assume_of _ _ _ _ (chk_high _)]
  iapply (loadIdx_holds (thr d L) none) $$ Hx
  iintro Hx
  iapply (load_holds (thr d L) none) $$ Ho
  iintro Ho
  iapply (store_holds (thr d L) none) $$ Ho
  iintro ⟨%o', %ho', Ho⟩
  rw [wp_ret]
  imodintro
  isplitl [Hw]; · iexact Hw
  isplitl [Hx]; · iexact Hx
  iexists o'
  isplitr
  · ipureintro
    intro j hj
    by_cases hm : j ∈ (Rect.unit (s := S8192) (k0_off6 t) S16.size (k0_off6_inb t)).set
    · rw [← Rect.map_emb_univ, Finset.mem_map] at hm
      obtain ⟨l, -, rfl⟩ := hm
      rw [ho'.1 l]
      refine (stored_eq x _ _ _ l).trans ?_
      refine congrArg (fun i => interp x (w i)) ?_
      exact lanes_congr ((k0_off5_eq t).trans (k0_off6_eq t).symm) _ _ l
    · rw [ho'.2 j hm]
      refine ho j ?_
      rcases lanes_not_mem (k0_off6_eq t) _ j hm with h | h <;> omega
  iexact Ho

/-- The first inner loop leaves the row of interpolated values in the result's scratch. -/
theorem loop_holds (w x : S8192.Idx → F .f32) {β : Type} {kk : Unit → Prog (TpuEff nD τ sig (Elt F) Λ₀ (thr d L).2) β} {Q : β → sProp 𝕄} :
    iprop(Holds (thr d L) arg7 w ∗ Holds (thr d L) arg5 x ∗ Owned (thr d L) arg9)
      ⊢ iprop((iprop(Holds (thr d L) arg7 w ∗ Holds (thr d L) arg5 x ∗ Holds (thr d L) arg9 (rowOut x w))
            -∗ wp frame (wpE (defs₀ (F := F)) 𝒱₀ (thr d L) none) Set.univ (kk ⟨⟩) Q)
          -∗ wp frame (wpE (defs₀ (F := F)) 𝒱₀ (thr d L) none) Set.univ
            (Scf.Loop.for k0_t2_loop k0_t2_ok ⟨⟩
              (k0_t2_body L arg2 harg2 arg3 harg3 arg4 harg4 arg5 harg5 arg6 harg6 arg7 harg7 arg8 harg8 arg9 harg9 arg10 harg10
                arg11 arg12 arg13 arg14 arg15 arg16 v2 c0 c1 t1) >>= kk) Q) := by
  iintro ⟨Hw, Hx, Ho⟩ Hk
  iapply (Scf.wp_for_bind frame (wpE (defs₀ (F := F)) 𝒱₀ (thr d L) none) Set.univ _ _ _ k0_t2_ok (⟨⟩ : Unit) _
    (fun k _ => innerInv d L arg7 arg5 arg9 w x k)
    (fun k acc => trip_holds d L arg2 harg2 arg3 harg3 arg4 harg4 arg5 harg5 arg6 harg6 arg7 harg7 arg8 harg8 arg9 harg9 arg10 harg10
      arg11 arg12 arg13 arg14 arg15 arg16 v2 c0 c1 t1 w x k acc)) $$ [Hw Hx Ho]
  · unfold innerInv Owned
    isplitl [Hw]; · iexact Hw
    isplitl [Hx]; · iexact Hx
    icases Ho with ⟨%o, Ho⟩
    iexists o
    isplitr; · ipureintro; intro j hj; omega
    iexact Ho
  iintro %acc H
  unfold innerInv
  icases H with ⟨Hw, Hx, ⟨%o, %ho, Ho⟩⟩
  iapply Hk
  isplitl [Hw]; · iexact Hw
  isplitl [Hx]; · iexact Hx
  rw [show rowOut x w = o from by
    funext j
    refine (ho j ?_).symm
    have hj : (j 0).val < 8192 := (j 0).isLt
    have ht : k0_t2_loop.trips = 512 := by decide
    show (j 0).val < 16 * k0_t2_loop.trips
    omega]
  iexact Ho

/-- The second inner loop is the first over the other set of scratches. -/
theorem loop3_eq :
    Scf.Loop.for k0_t3_loop k0_t3_ok (⟨⟩ : Unit)
        (k0_t3_body (F := F) L arg2 harg2 arg3 harg3 arg4 harg4 arg5 harg5 arg6 harg6 arg7 harg7 arg8 harg8 arg9 harg9 arg10 harg10
          arg11 arg12 arg13 arg14 arg15 arg16)
      = Scf.Loop.for k0_t2_loop k0_t2_ok (⟨⟩ : Unit)
        (k0_t2_body (F := F) L arg2 harg2 arg3 harg3 arg4 harg4 arg6 harg6 arg5 harg5 arg8 harg8 arg7 harg7 arg10 harg10 arg9 harg9
          arg11 arg12 arg13 arg14 arg15 arg16 v2 c0 c1 t1) := rfl

end Loop

end Cert.Proof.Interp

end
-- ==== Proof.Task.lean ====
/-
  One vector subcore's task: its 64 rows in order, two sets of buffers in turn. While one set is interpolated, the copies into
  the other and the copies out of both are in flight. Rows are held one by one, in two families by parity, each of 32 rows: a row
  is taken out of its family where a copy of it starts and returned where that copy is waited for.
-/
module

public import proofs.«01_k».proof.Proof.Inner

@[expose] public section

set_option maxRecDepth 16384

noncomputable section

namespace Cert.Proof.Interp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Idealize.ShloMosaic.Tactic

variable {F : FTy → Type}

local notation "𝕄" => MT nD τ sig (HIx 1) (Elt F) ℕ UU ℕ

/-! ## Rows of the arrays -/

/-- A row's slice lies within the array. -/
theorem rowN_inb (n : ℕ) : ∀ a, (![min n 2047, 0] : Fin 2 → ℕ) a + S1x8192.size a ≤ S2048x8192.size a := by
  intro a
  match a with
  | 0 => show min n 2047 + 1 ≤ 2048; omega
  | 1 => show 0 + 8192 ≤ 8192; omega

/-- Row `n` of an array, as a row of 8192. -/
def rowN (A : Memref sig .scVector .hbm S2048x8192 .f32) (n : ℕ) : Memref sig .scVector .hbm S8192 .f32 :=
  (A.slice (Rect.unit (s := S2048x8192) ![min n 2047, 0] S1x8192.size (rowN_inb n)) (fun _ => rfl)).squeeze S8192 squeezes_S1x8192_S8192

/-- A row sliced at offsets computed another way is the same row. -/
theorem rowN_eq (A : Memref sig .scVector .hbm S2048x8192 .f32) {n : ℕ} {off : Fin 2 → ℕ} (e : off = ![n, 0]) (hn : n < 2048)
    (h : ∀ a, off a + S1x8192.size a ≤ S2048x8192.size a) :
    (A.slice (Rect.unit (s := S2048x8192) off S1x8192.size h) (fun _ => rfl)).squeeze S8192 squeezes_S1x8192_S8192 = rowN A n := by
  subst e
  unfold rowN
  have hm : min n 2047 = n := by omega
  congr 2
  simp only [hm]

/-! ## The task's arguments and what it holds -/

/-- The memrefs and cells the task is passed. -/
structure Args where
  x : Memref sig .scVector .hbm S2048x8192 .f32
  hx : x.IsWhole
  w : Memref sig .scVector .hbm S2048x8192 .f32
  hw : w.IsWhole
  o : Memref sig .scVector .hbm S2048x8192 .f32
  ho : o.IsWhole
  xb : Memref sig .scVector .vmem S8192 .f32
  hxb : xb.IsWhole
  xb' : Memref sig .scVector .vmem S8192 .f32
  hxb' : xb'.IsWhole
  wb : Memref sig .scVector .vmem S8192 .f32
  hwb : wb.IsWhole
  wb' : Memref sig .scVector .vmem S8192 .f32
  hwb' : wb'.IsWhole
  ob : Memref sig .scVector .vmem S8192 .f32
  hob : ob.IsWhole
  ob' : Memref sig .scVector .vmem S8192 .f32
  hob' : ob'.IsWhole
  sx : DmaSems sig S_
  sx' : DmaSems sig S_
  sw : DmaSems sig S_
  sw' : DmaSems sig S_
  so : DmaSems sig S_
  so' : DmaSems sig S_

section Task

variable [FloatOps F] (d : Dev nD) (L : grid0.Coords) (A : Args) (X W : ℕ → S8192.Idx → F .f32)

/-- The first of the task's 64 rows. -/
abbrev base (L : grid0.Coords) : ℕ := 128 * (L 1).val + 64 * (L 0).val

omit [FloatOps F] in
/-- A vector subcore's 64 rows lie within the array. -/
theorem base_lt (L : grid0.Coords) : base L + 64 ≤ 2048 := by
  have h0 : (L 0).val < 2 := (L 0).isLt
  have h1 : (L 1).val < 16 := (L 1).isLt
  unfold base; omega

/-- Row `2 j + p` of the task. -/
abbrev rw' (p j : ℕ) : ℕ := base L + 2 * j + p

/-- The interpolated row `n`. -/
abbrev outRow (n : ℕ) : S8192.Idx → F .f32 := rowOut (X n) (W n)

/-- Row `2 j + p` of the two inputs. -/
def inRow (p j : ℕ) : sProp 𝕄 :=
  iprop(Holds (F := F) (thr d L) (rowN A.x (rw' L p j)) (X (rw' L p j)) ∗ Holds (F := F) (thr d L) (rowN A.w (rw' L p j)) (W (rw' L p j)))

/-- Row `2 j + p` of the result, done when `j < k`. -/
def resRow (p k j : ℕ) : sProp 𝕄 :=
  iprop(∃ v, ⌜j < k → v = outRow X W (rw' L p j)⌝ ∗ Holds (F := F) (thr d L) (rowN A.o (rw' L p j)) v)

/-- No copy in: the cells at zero, the scratches owned, every input row of the family here. -/
def inIdle (p : ℕ) (s s' : DmaSem sig) (bx bw : Memref sig .scVector .vmem S8192 .f32) : sProp 𝕄 :=
  iprop(semVal (thr d L, .dma s) 0 ∗ semVal (thr d L, .dma s') 0 ∗ Owned (F := F) (thr d L) bx ∗ Owned (F := F) (thr d L) bw
    ∗ bigSep (Finset.range 32) (inRow d L A X W p))

/-- Input rows `2 k + p` in flight into the scratches; the family's others here. -/
def inFly (p k : ℕ) (s s' : DmaSem sig) (bx bw : Memref sig .scVector .vmem S8192 .f32) : sProp 𝕄 :=
  iprop(Flight EC (thr d L) (.dma s) (default : HIx 1) bx.view.dmaCredit
      iprop(Holds (F := F) (thr d L) bx (X (rw' L p k)) ∗ Holds (F := F) (thr d L) (rowN A.x (rw' L p k)) (X (rw' L p k)))
    ∗ Flight EC (thr d L) (.dma s') (default : HIx 1) bw.view.dmaCredit
      iprop(Holds (F := F) (thr d L) bw (W (rw' L p k)) ∗ Holds (F := F) (thr d L) (rowN A.w (rw' L p k)) (W (rw' L p k)))
    ∗ bigSep ((Finset.range 32).erase k) (inRow d L A X W p))

/-- Input rows `2 k + p` arrived: the cells at zero, the scratches holding them, every input row of the family here. -/
def inHere (p k : ℕ) (s s' : DmaSem sig) (bx bw : Memref sig .scVector .vmem S8192 .f32) : sProp 𝕄 :=
  iprop(semVal (thr d L, .dma s) 0 ∗ semVal (thr d L, .dma s') 0 ∗ Holds (F := F) (thr d L) bx (X (rw' L p k))
    ∗ Holds (F := F) (thr d L) bw (W (rw' L p k)) ∗ bigSep (Finset.range 32) (inRow d L A X W p))

/-- No copy out: the cell at zero, the scratch owned, the family's result rows here, the first `k` done. -/
def outIdle (p k : ℕ) (s : DmaSem sig) (b : Memref sig .scVector .vmem S8192 .f32) : sProp 𝕄 :=
  iprop(semVal (thr d L, .dma s) 0 ∗ Owned (F := F) (thr d L) b ∗ bigSep (Finset.range 32) (resRow d L A X W p k))

/-- The result row `2 k + p` in flight out of its scratch; the family's others here, the first `k` done. -/
def outFly (p k : ℕ) (s : DmaSem sig) (b : Memref sig .scVector .vmem S8192 .f32) : sProp 𝕄 :=
  iprop(Flight EC (thr d L) (.dma s) (default : HIx 1) (rowN A.o (rw' L p k)).view.dmaCredit
      iprop(Holds (F := F) (thr d L) (rowN A.o (rw' L p k)) (outRow X W (rw' L p k)) ∗ Holds (F := F) (thr d L) b (outRow X W (rw' L p k)))
    ∗ bigSep ((Finset.range 32).erase k) (resRow d L A X W p (k + 1)))

/-- Before trip `k`, the copies out: none yet at the first, the previous trip's after. -/
def outSt (p k : ℕ) (s : DmaSem sig) (b : Memref sig .scVector .vmem S8192 .f32) : sProp 𝕄 :=
  match k with
  | 0 => outIdle d L A X W p 0 s b
  | k + 1 => outFly d L A X W p k s b

/-- Before trip `k`, the copies into the first set: row `2 k`'s in flight, none after the last trip. -/
def inSt (k : ℕ) : sProp 𝕄 :=
  if k < 32 then inFly d L A X W 0 k A.sx.sem A.sw.sem A.xb A.wb else inIdle d L A X W 0 A.sx.sem A.sw.sem A.xb A.wb

/-! ## The families -/

omit [FloatOps F] in
/-- A row taken out of a family of 32. -/
theorem family_take {Φ : ℕ → sProp 𝕄} {k : ℕ} (hk : k < 32) :
    bigSep (Finset.range 32) Φ = iprop(Φ k ∗ bigSep ((Finset.range 32).erase k) Φ) :=
  SparseCore.bigSep_erase' (Finset.mem_range.mpr hk)

/-- A trip leaves the state of every result row but its own. -/
theorem resRow_next {p k j : ℕ} (h : j ≠ k) : resRow d L A X W p k j = resRow d L A X W p (k + 1) j := by
  unfold resRow
  have e : (j < k) = (j < k + 1) := propext ⟨fun _ => by omega, fun _ => by omega⟩
  rw [e]

/-- The row to be written next, taken out of the result's family. -/
theorem res_take {p k : ℕ} (hk : k < 32) :
    bigSep (Finset.range 32) (resRow d L A X W p k)
      ⊢ iprop(Owned (F := F) (thr d L) (rowN A.o (rw' L p k)) ∗ bigSep ((Finset.range 32).erase k) (resRow d L A X W p (k + 1))) := by
  rw [family_take hk, show bigSep ((Finset.range 32).erase k) (resRow d L A X W p k) = bigSep ((Finset.range 32).erase k) (resRow d L A X W p (k + 1)) from
    bigSep_congr fun j hj => resRow_next d L A X W (Finset.ne_of_mem_erase hj)]
  iintro ⟨H, Hr⟩
  isplitl [H]
  · unfold resRow Owned
    icases H with ⟨%v, -, H⟩
    iexists v; iexact H
  iexact Hr

/-- The row written last, back in the result's family. -/
theorem res_put {p k : ℕ} (hk : k < 32) :
    iprop(Holds (F := F) (thr d L) (rowN A.o (rw' L p k)) (outRow X W (rw' L p k)) ∗ bigSep ((Finset.range 32).erase k) (resRow d L A X W p (k + 1)))
      ⊢ bigSep (Finset.range 32) (resRow d L A X W p (k + 1)) := by
  rw [family_take (Φ := resRow d L A X W p (k + 1)) hk]
  iintro ⟨H, Hr⟩
  isplitl [H]
  · unfold resRow
    iexists _; isplitr; · ipureintro; intro _; rfl
    iexact H
  iexact Hr

/-! ## The steps -/

/-- The copies of the input rows `2 k + p` into their scratches start. -/
theorem step_fetch {α : Type} {Q : α → sProp 𝕄} {p k : ℕ} (hk : k < 32) {s s' : DmaSem sig} {bx bw : Memref sig .scVector .vmem S8192 .f32}
    {mx mw : Memref sig .scVector .hbm S8192 .f32} (ex : mx = rowN A.x (rw' L p k)) (ew : mw = rowN A.w (rw' L p k))
    {h₁ : mx.view.WordExact} {h₂ : bx.view.WordExact} {h₃ : DmaTarget.Typed (nD := nD) (p := (thr d L).2) .hbm (.dma s) (.here bx)}
    {h₁' : mw.view.WordExact} {h₂' : bw.view.WordExact} {h₃' : DmaTarget.Typed (nD := nD) (p := (thr d L).2) .hbm (.dma s') (.here bw)}
    {kk : PUnit → Prog (TpuEff nD τ sig (Elt F) Λ₀ (thr d L).2) α} :
    inIdle d L A X W p s s' bx bw
      ⊢ iprop((inFly d L A X W p k s s' bx bw -∗ wp frame (wpE (defs₀ (F := F)) 𝒱₀ (thr d L) none) Set.univ (kk ⟨⟩) Q)
          -∗ wp frame (wpE (defs₀ (F := F)) 𝒱₀ (thr d L) none) Set.univ
            (.op (.enqueueDma mx (.here bx) (.dma s) h₁ h₂ h₃) fun _ => .op (.enqueueDma mw (.here bw) (.dma s') h₁' h₂' h₃') kk) Q) := by
  subst ex ew
  unfold inIdle inFly
  rw [family_take (Φ := inRow d L A X W p) hk]
  iintro ⟨Hs, Hs', Hx, Hw, Hrow, Hrows⟩ Hk
  ihave Hrow := (Entails.of_eq (show inRow d L A X W p k = _ from rfl)) $$ Hrow
  unfold inRow
  icases Hrow with ⟨Hrx, Hrw⟩
  iapply (issue_holds (thr d L) none (show 0 < S8192.numel by decide)) $$ [Hs Hx Hrx]
  · isplitl [Hrx]; · iexact Hrx
    isplitl [Hx]; · iexact Hx
    iexact Hs
  iintro HF
  iapply (issue_holds (thr d L) none (show 0 < S8192.numel by decide)) $$ [Hs' Hw Hrw]
  · isplitl [Hrw]; · iexact Hrw
    isplitl [Hw]; · iexact Hw
    iexact Hs'
  iintro HF'
  iapply Hk
  isplitl [HF]; · iexact HF
  isplitl [HF']; · iexact HF'
  iexact Hrows

/-- Those copies are waited for. -/
theorem step_arrive {α : Type} {Q : α → sProp 𝕄} {p k : ℕ} (hk : k < 32) {s s' : DmaSem sig} {bx bw : Memref sig .scVector .vmem S8192 .f32}
    {mx mw : Memref sig .scVector .hbm S8192 .f32} {h₁ : mx.view.WordExact} {h₂ : bx.view.WordExact}
    {h₁' : mw.view.WordExact} {h₂' : bw.view.WordExact} {O : CellTallies nD τ sig (HIx 1)}
    {kk : PUnit → Prog (TpuEff nD τ sig (Elt F) Λ₀ (thr d L).2) α} :
    iprop(inFly d L A X W p k s s' bx bw ∗ (∃ V, owes (thr d L) O V) ∗ MayWaits (thr d L) (default : HIx 1) O)
      ⊢ iprop((iprop(inHere d L A X W p k s s' bx bw ∗ ∃ V, owes (thr d L) O V)
            -∗ wp frame (wpE (defs₀ (F := F)) 𝒱₀ (thr d L) none) Set.univ (kk ⟨⟩) Q)
          -∗ wp frame (wpE (defs₀ (F := F)) 𝒱₀ (thr d L) none) Set.univ
            (.op (.waitDma2 s mx bx h₁ h₂) fun _ => .op (.waitDma2 s' mw bw h₁' h₂') kk) Q) := by
  unfold inFly inHere
  rw [family_take (Φ := inRow d L A X W p) hk]
  iintro ⟨⟨HF, HF', Hrows⟩, HO, #Hm⟩ Hk
  iapply (wait_holds (thr d L) none rfl) $$ [HF HO]
  · isplitl [HF]; · iexact HF
    isplitl [HO]; · iexact HO
    iexact Hm
  iintro ⟨⟨Hx, Hrx⟩, Hs, HO⟩
  iapply (wait_holds (thr d L) none rfl) $$ [HF' HO]
  · isplitl [HF']; · iexact HF'
    isplitl [HO]; · iexact HO
    iexact Hm
  iintro ⟨⟨Hw, Hrw⟩, Hs', HO⟩
  iapply Hk
  isplitr [HO]
  · isplitl [Hs]; · iexact Hs
    isplitl [Hs']; · iexact Hs'
    isplitl [Hx]; · iexact Hx
    isplitl [Hw]; · iexact Hw
    isplitl [Hrx Hrw]
    · unfold inRow
      isplitl [Hrx]; · iexact Hrx
      iexact Hrw
    iexact Hrows
  iexact HO

/-- The copy of the result row `2 k + p` out of its scratch starts. -/
theorem step_send {α : Type} {Q : α → sProp 𝕄} {p k : ℕ} (hk : k < 32) {s : DmaSem sig} {b : Memref sig .scVector .vmem S8192 .f32}
    {mo : Memref sig .scVector .hbm S8192 .f32} (eo : mo = rowN A.o (rw' L p k))
    {h₁ : b.view.WordExact} {h₂ : mo.view.WordExact} {h₃ : DmaTarget.Typed (nD := nD) (p := (thr d L).2) .vmem (.dma s) (.here mo)}
    {kk : PUnit → Prog (TpuEff nD τ sig (Elt F) Λ₀ (thr d L).2) α} :
    iprop(semVal (thr d L, .dma s) 0 ∗ Holds (F := F) (thr d L) b (outRow X W (rw' L p k)) ∗ bigSep (Finset.range 32) (resRow d L A X W p k))
      ⊢ iprop((outFly d L A X W p k s b -∗ wp frame (wpE (defs₀ (F := F)) 𝒱₀ (thr d L) none) Set.univ (kk ⟨⟩) Q)
          -∗ wp frame (wpE (defs₀ (F := F)) 𝒱₀ (thr d L) none) Set.univ (.op (.enqueueDma b (.here mo) (.dma s) h₁ h₂ h₃) kk) Q) := by
  subst eo
  unfold outFly
  iintro ⟨Hs, Hb, Hrows⟩ Hk
  ihave Hrows' := (res_take d L A X W hk) $$ Hrows
  icases Hrows' with ⟨Hrow, Hrows⟩
  iapply (issue_holds (thr d L) none (show 0 < S8192.numel by decide)) $$ [Hs Hb Hrow]
  · isplitl [Hb]; · iexact Hb
    isplitl [Hrow]; · iexact Hrow
    iexact Hs
  iintro HF
  iapply Hk
  isplitl [HF]; · iexact HF
  iexact Hrows

/-- That copy is waited for. -/
theorem step_sent {α : Type} {Q : α → sProp 𝕄} {p k : ℕ} (hk : k < 32) {s : DmaSem sig} {b : Memref sig .scVector .vmem S8192 .f32}
    {mo : Memref sig .scVector .hbm S8192 .f32} (hN : mo.view.dmaCredit = (rowN A.o (rw' L p k)).view.dmaCredit)
    {h₁ : b.view.WordExact} {h₂ : mo.view.WordExact} {O : CellTallies nD τ sig (HIx 1)}
    {kk : PUnit → Prog (TpuEff nD τ sig (Elt F) Λ₀ (thr d L).2) α} :
    iprop(outFly d L A X W p k s b ∗ (∃ V, owes (thr d L) O V) ∗ MayWaits (thr d L) (default : HIx 1) O)
      ⊢ iprop((iprop(outIdle d L A X W p (k + 1) s b ∗ ∃ V, owes (thr d L) O V)
            -∗ wp frame (wpE (defs₀ (F := F)) 𝒱₀ (thr d L) none) Set.univ (kk ⟨⟩) Q)
          -∗ wp frame (wpE (defs₀ (F := F)) 𝒱₀ (thr d L) none) Set.univ (.op (.waitDma2 s b mo h₁ h₂) kk) Q) := by
  unfold outFly outIdle
  iintro ⟨⟨HF, Hrows⟩, HO, #Hm⟩ Hk
  iapply (wait_holds (thr d L) none hN) $$ [HF HO]
  · isplitl [HF]; · iexact HF
    isplitl [HO]; · iexact HO
    iexact Hm
  iintro ⟨⟨Hrow, Hb⟩, Hs, HO⟩
  iapply Hk
  isplitr [HO]
  · isplitl [Hs]; · iexact Hs
    isplitl [Hb]; · iapply (Holds.owned (thr d L)); iexact Hb
    iapply (res_put d L A X W hk)
    isplitl [Hrow]; · iexact Hrow
    iexact Hrows
  iexact HO

end Task

end Cert.Proof.Interp

end
-- ==== Proof.Trip.lean ====
/-
  The task's loop: one trip interpolates two rows, one from each set of scratches, with the next copies started and the previous
  ones waited for in between; and the whole task.
-/
module

public import proofs.«01_k».proof.Proof.Task

@[expose] public section

set_option maxRecDepth 16384

noncomputable section

namespace Cert.Proof.Interp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)
open Idealize.ShloMosaic.Tactic

variable {F : FTy → Type}

local notation "𝕄" => MT nD τ sig (HIx 1) (Elt F) ℕ UU ℕ

section Trip

variable [FloatOps F] (d : Dev nD) (L : grid0.Coords) (A : Args) (X W : ℕ → S8192.Idx → F .f32)

/-! ## The steps under the trip's conditions -/

/-- The first set's earlier copy out is waited for in all trips but the first. -/
theorem cond1_iff : ∀ t : Fin k0_t1_loop.trips, k0_cond1 t = 1#1 ↔ 0 < t.val := by decide +kernel
/-- The next pair's first row is fetched in all trips but the last. -/
theorem cond2_iff : ∀ t : Fin k0_t1_loop.trips, k0_cond2 t = 1#1 ↔ t.val + 1 < 32 := by decide +kernel
/-- The second set's earlier copy out is waited for in all trips but the first. -/
theorem cond3_iff : ∀ t : Fin k0_t1_loop.trips, k0_cond3 t = 1#1 ↔ 0 < t.val := by decide +kernel
/-- There are 32 trips. -/
theorem trip_lt (t : Fin k0_t1_loop.trips) : t.val < 32 := Nat.lt_of_lt_of_le t.isLt k0_t1_abs.2.1

/-- Every row of the task is a row of the arrays. -/
theorem rw_lt {p j : ℕ} (hp : p < 2) (hj : j < 32) : rw' L p j < 2048 := by
  have := base_lt L
  show base L + 2 * j + p < 2048
  omega

/-- Before the first trip no copy out is in flight. -/
theorem outSt_zero {p : ℕ} {s : DmaSem sig} {b : Memref sig .scVector .vmem S8192 .f32} :
    outSt d L A X W p 0 s b = outIdle d L A X W p 0 s b := rfl
/-- After a trip its copy out is in flight. -/
theorem outSt_succ {p k : ℕ} {s : DmaSem sig} {b : Memref sig .scVector .vmem S8192 .f32} :
    outSt d L A X W p (k + 1) s b = outFly d L A X W p k s b := rfl

/-- A copy into a row counts the same on its cell whichever row it is. -/
theorem row_credit (M : Memref sig .scVector .hbm S2048x8192 .f32) (n : ℕ) (off : Fin 2 → ℕ) (h : ∀ a, off a + S1x8192.size a ≤ S2048x8192.size a) :
    ((M.slice (Rect.unit (s := S2048x8192) off S1x8192.size h) (fun _ => rfl)).squeeze S8192 squeezes_S1x8192_S8192).view.dmaCredit
      = (rowN M n).view.dmaCredit := rfl

/-- Past the first trip the previous trip's copy out is waited for. -/
theorem step_sentIf {α : Type} {Q : α → sProp 𝕄} {p k : ℕ} (hk : k < 32) {s : DmaSem sig} {b : Memref sig .scVector .vmem S8192 .f32}
    {C : Prop} [Decidable C] (hC : C ↔ 0 < k) {mo : C → Memref sig .scVector .hbm S8192 .f32}
    (hN : ∀ h n, (mo h).view.dmaCredit = (rowN A.o n).view.dmaCredit)
    {h₁ : C → b.view.WordExact} {h₂ : ∀ h, (mo h).view.WordExact} {O : CellTallies nD τ sig (HIx 1)}
    {kk : Prog (TpuEff nD τ sig (Elt F) Λ₀ (thr d L).2) α} :
    iprop(outSt d L A X W p k s b ∗ (∃ V, owes (thr d L) O V) ∗ MayWaits (thr d L) (default : HIx 1) O)
      ⊢ iprop((iprop(outIdle d L A X W p k s b ∗ ∃ V, owes (thr d L) O V)
            -∗ wp frame (wpE (defs₀ (F := F)) 𝒱₀ (thr d L) none) Set.univ kk Q)
          -∗ wp frame (wpE (defs₀ (F := F)) 𝒱₀ (thr d L) none) Set.univ
            (if h : C then .op (.waitDma2 s b (mo h) (h₁ h) (h₂ h)) (fun _ => kk) else kk) Q) := by
  match k with
  | 0 =>
    rw [dif_neg (fun h => absurd (hC.mp h) (Nat.lt_irrefl 0))]
    unfold outSt
    iintro ⟨H, HO, Hm⟩ Hk
    iapply Hk
    isplitl [H]; · iexact H
    iexact HO
  | k + 1 =>
    rw [dif_pos (hC.mpr (Nat.succ_pos k))]
    exact step_sent d L A X W (kk := fun _ => kk) (show k < 32 by omega) (hN _ _)

/-- Before the last trip the next trip's first copies in start. -/
theorem step_fetchIf {α : Type} {Q : α → sProp 𝕄} {k : ℕ} {C : Prop} [Decidable C] (hC : C ↔ k < 32)
    {mx mw : C → Memref sig .scVector .hbm S8192 .f32} (ex : ∀ h, mx h = rowN A.x (rw' L 0 k)) (ew : ∀ h, mw h = rowN A.w (rw' L 0 k))
    {h₁ : ∀ h, (mx h).view.WordExact} {h₂ : C → A.xb.view.WordExact}
    {h₃ : C → DmaTarget.Typed (nD := nD) (p := (thr d L).2) .hbm (.dma A.sx.sem) (.here A.xb)}
    {h₁' : ∀ h, (mw h).view.WordExact} {h₂' : C → A.wb.view.WordExact}
    {h₃' : C → DmaTarget.Typed (nD := nD) (p := (thr d L).2) .hbm (.dma A.sw.sem) (.here A.wb)}
    {kk : Prog (TpuEff nD τ sig (Elt F) Λ₀ (thr d L).2) α} :
    inIdle d L A X W 0 A.sx.sem A.sw.sem A.xb A.wb
      ⊢ iprop((inSt d L A X W k -∗ wp frame (wpE (defs₀ (F := F)) 𝒱₀ (thr d L) none) Set.univ kk Q)
          -∗ wp frame (wpE (defs₀ (F := F)) 𝒱₀ (thr d L) none) Set.univ
            (if h : C then .op (.enqueueDma (mx h) (.here A.xb) (.dma A.sx.sem) (h₁ h) (h₂ h) (h₃ h)) fun _ =>
                .op (.enqueueDma (mw h) (.here A.wb) (.dma A.sw.sem) (h₁' h) (h₂' h) (h₃' h)) (fun _ => kk)
              else kk) Q) := by
  unfold inSt
  by_cases hk : k < 32
  · rw [dif_pos (hC.mpr hk), if_pos hk]
    exact step_fetch d L A X W (kk := fun _ => kk) hk (ex _) (ew _)
  · rw [dif_neg (fun h => hk (hC.mp h)), if_neg hk]
    iintro H Hk
    iapply Hk; iexact H

/-! ## One trip -/

/-- Before trip `k`. -/
def tripInv (O : CellTallies nD τ sig (HIx 1)) (k : ℕ) : sProp 𝕄 :=
  iprop(MayWaits (thr d L) (default : HIx 1) O ∗ (∃ V, owes (thr d L) O V) ∗ inSt d L A X W k
    ∗ inIdle d L A X W 1 A.sx'.sem A.sw'.sem A.xb' A.wb' ∗ outSt d L A X W 0 k A.so.sem A.ob ∗ outSt d L A X W 1 k A.so'.sem A.ob')

/-- In the middle of trip `k`: the first set's row done and on its way out, the second set's rows on their way in. -/
def midInv (O : CellTallies nD τ sig (HIx 1)) (k : ℕ) : sProp 𝕄 :=
  iprop((∃ V, owes (thr d L) O V) ∗ inIdle d L A X W 0 A.sx.sem A.sw.sem A.xb A.wb
    ∗ inFly d L A X W 1 k A.sx'.sem A.sw'.sem A.xb' A.wb' ∗ outFly d L A X W 0 k A.so.sem A.ob ∗ outSt d L A X W 1 k A.so'.sem A.ob')

omit [FloatOps F] in
/-- The arrived rows' scratches, owned again. -/
theorem inHere_idle {p k : ℕ} {s s' : DmaSem sig} {bx bw : Memref sig .scVector .vmem S8192 .f32} :
    inHere d L A X W p k s s' bx bw ⊢ inIdle d L A X W p s s' bx bw := by
  unfold inHere inIdle
  iintro ⟨Hs, Hs', Hx, Hw, Hr⟩
  isplitl [Hs]; · iexact Hs
  isplitl [Hs']; · iexact Hs'
  isplitl [Hx]; · iapply (Holds.owned (thr d L)); iexact Hx
  isplitl [Hw]; · iapply (Holds.owned (thr d L)); iexact Hw
  iexact Hr

/-- The first half of a trip, as the program groups it, takes the loop's state to the state between its halves. -/
theorem part1_holds {O : CellTallies nD τ sig (HIx 1)} (v2 c0 c1 : BitVec 32) (t : Fin k0_t1_loop.trips)
    {Q : (Σ' (_ : BitVec 32) (_ : BitVec 32), BitVec 32) → sProp 𝕄} :
    tripInv d L A X W O t.val
      ⊢ iprop((∀ r, midInv d L A X W O t.val -∗ Q r)
          -∗ wp frame (wpE (defs₀ (F := F)) 𝒱₀ (thr d L) none) Set.univ
            (k0_part1 L A.x A.hx A.w A.hw A.o A.ho A.xb A.hxb A.xb' A.hxb' A.wb A.hwb A.wb' A.hwb' A.ob A.hob A.ob' A.hob'
              A.sx A.sx' A.sw A.sw' A.so A.so' v2 c0 c1 t) Q) := by
  have ht := trip_lt t
  rw [k0_part1_eq_skeleton]
  unfold k0_part1_skel tripInv midInv
  simp only [Prog.lift, Prog.bind_op, Prog.bind_ret, Prog.pure_eq_ret, Prog.bind_assoc]
  iintro ⟨#Hm, HO, Hin, Hin', Hout, Hout'⟩ Hk
  ihave Hin := (Entails.of_eq (show inSt d L A X W t.val = inFly d L A X W 0 t.val A.sx.sem A.sw.sem A.xb A.wb from if_pos ht)) $$ Hin
  -- the second set's copies in start
  iapply (step_fetch d L A X W (p := 1) ht
    (rowN_eq A.x (k0_off2_eq L t) (rw_lt L (by decide) ht) _) (rowN_eq A.w (k0_off2_eq L t) (rw_lt L (by decide) ht) _)) $$ Hin'
  iintro Hin'
  -- the first set's rows arrive
  iapply (step_arrive d L A X W ht) $$ [Hin HO]
  · isplitl [Hin]; · iexact Hin
    isplitl [HO]; · iexact HO
    iexact Hm
  iintro ⟨Hin, HO⟩
  -- the scratch of the result is free
  iapply (step_sentIf d L A X W ht (cond1_iff t) (fun _ _ => rfl)) $$ [Hout HO]
  · isplitl [Hout]; · iexact Hout
    isplitl [HO]; · iexact HO
    iexact Hm
  iintro ⟨Hout, HO⟩
  -- the row is interpolated
  unfold inHere outIdle
  icases Hin with ⟨Hs, Hs', Hx, Hw, Hrows⟩
  icases Hout with ⟨Hso, Hob, Hres⟩
  iapply (loop_holds d L A.x A.hx A.w A.hw A.o A.ho A.xb A.hxb A.xb' A.hxb' A.wb A.hwb A.wb' A.hwb' A.ob A.hob A.ob' A.hob'
    A.sx A.sx' A.sw A.sw' A.so A.so' v2 c0 c1 t (W (rw' L 0 t.val)) (X (rw' L 0 t.val))) $$ [Hx Hw Hob]
  · isplitl [Hw]; · iexact Hw
    isplitl [Hx]; · iexact Hx
    iexact Hob
  iintro ⟨Hw, Hx, Hob⟩
  -- and sent
  iapply (step_send d L A X W (p := 0) ht (rowN_eq A.o (k0_off3_eq L t 0) (rw_lt L (by decide) ht) _)) $$ [Hso Hob Hres]
  · isplitl [Hso]; · iexact Hso
    isplitl [Hob]; · iexact Hob
    iexact Hres
  iintro Hout
  rw [wp_ret]
  imodintro
  iapply Hk
  isplitl [HO]; · iexact HO
  isplitl [Hs Hs' Hx Hw Hrows]
  · iapply (inHere_idle d L A X W (k := t.val))
    unfold inHere
    isplitl [Hs]; · iexact Hs
    isplitl [Hs']; · iexact Hs'
    isplitl [Hx]; · iexact Hx
    isplitl [Hw]; · iexact Hw
    iexact Hrows
  isplitl [Hin']; · iexact Hin'
  isplitl [Hout]; · iexact Hout
  iexact Hout'

/-- One trip of the task's loop. -/
theorem trip_body {O : CellTallies nD τ sig (HIx 1)} (v2 : BitVec 32) (t : Fin k0_t1_loop.trips) (u : Unit) :
    tripInv d L A X W O t.val
      ⊢ wp frame (wpE (defs₀ (F := F)) 𝒱₀ (thr d L) none) Set.univ
          (k0_t1_body L A.x A.hx A.w A.hw A.o A.ho A.xb A.hxb A.xb' A.hxb' A.wb A.hwb A.wb' A.hwb' A.ob A.hob A.ob' A.hob'
            A.sx A.sx' A.sw A.sw' A.so A.so' v2 t u)
          fun _ => tripInv d L A X W O (t.val + 1) := by
  have ht := trip_lt t
  unfold k0_t1_body
  simp only [Prog.lift, Prog.bind_op, Prog.bind_ret, Prog.pure_eq_ret, Prog.bind_assoc]
  iintro H
  ihave H := (show tripInv d L A X W O t.val ⊢ iprop(MayWaits (thr d L) (default : HIx 1) O ∗ tripInv d L A X W O t.val) from by
    unfold tripInv
    iintro ⟨#Hm, H⟩
    isplitr; · iexact Hm
    isplitr; · iexact Hm
    iexact H) $$ H
  icases H with ⟨#Hm, H⟩
  rw [wp_bind]
  iapply (part1_holds d L A X W v2 0#32 1#32 t) $$ H
  iintro %r H
  obtain ⟨r₁, r₂, r₃⟩ := r
  unfold midInv
  icases H with ⟨HO, Hin, Hin', Hout, Hout'⟩
  -- before the last trip, the next trip's first copies in start
  iapply (step_fetchIf d L A X W (k := t.val + 1) (cond2_iff t)
    (fun h => rowN_eq A.x (k0_off7_eq L t) (rw_lt L (p := 0) (by decide) ((cond2_iff t).mp h)) _)
    (fun h => rowN_eq A.w (k0_off7_eq L t) (rw_lt L (p := 0) (by decide) ((cond2_iff t).mp h)) _)) $$ Hin
  iintro Hin
  -- the second set's rows arrive
  iapply (step_arrive d L A X W ht) $$ [Hin' HO]
  · isplitl [Hin']; · iexact Hin'
    isplitl [HO]; · iexact HO
    iexact Hm
  iintro ⟨Hin', HO⟩
  -- the second scratch of the result is free
  iapply (step_sentIf d L A X W ht (cond3_iff t) (fun _ _ => rfl)) $$ [Hout' HO]
  · isplitl [Hout']; · iexact Hout'
    isplitl [HO]; · iexact HO
    iexact Hm
  iintro ⟨Hout', HO⟩
  -- the row is interpolated
  unfold inHere outIdle
  icases Hin' with ⟨Hs, Hs', Hx, Hw, Hrows⟩
  icases Hout' with ⟨Hso, Hob, Hres⟩
  rw [loop3_eq L A.x A.hx A.w A.hw A.o A.ho A.xb A.hxb A.xb' A.hxb' A.wb A.hwb A.wb' A.hwb' A.ob A.hob A.ob' A.hob'
    A.sx A.sx' A.sw A.sw' A.so A.so' v2 0#32 1#32 t]
  iapply (loop_holds d L A.x A.hx A.w A.hw A.o A.ho A.xb' A.hxb' A.xb A.hxb A.wb' A.hwb' A.wb A.hwb A.ob' A.hob' A.ob A.hob
    A.sx A.sx' A.sw A.sw' A.so A.so' v2 0#32 1#32 t (W (rw' L 1 t.val)) (X (rw' L 1 t.val))) $$ [Hx Hw Hob]
  · isplitl [Hw]; · iexact Hw
    isplitl [Hx]; · iexact Hx
    iexact Hob
  iintro ⟨Hw, Hx, Hob⟩
  -- and sent
  iapply (step_send d L A X W (p := 1) ht (rowN_eq A.o (k0_off3_eq L t 1) (rw_lt L (by decide) ht) _)) $$ [Hso Hob Hres]
  · isplitl [Hso]; · iexact Hso
    isplitl [Hob]; · iexact Hob
    iexact Hres
  iintro Hout'
  rw [wp_ret]
  imodintro
  unfold tripInv
  isplitr; · iexact Hm
  isplitl [HO]; · iexact HO
  isplitl [Hin]; · iexact Hin
  isplitl [Hs Hs' Hx Hw Hrows]
  · iapply (inHere_idle d L A X W (k := t.val))
    unfold inHere
    isplitl [Hs]; · iexact Hs
    isplitl [Hs']; · iexact Hs'
    isplitl [Hx]; · iexact Hx
    isplitl [Hw]; · iexact Hw
    iexact Hrows
  isplitl [Hout]; · iapply (Entails.of_eq (outSt_succ d L A X W).symm); iexact Hout
  iapply (Entails.of_eq (outSt_succ d L A X W).symm); iexact Hout'

/-! ## The task -/

/-- What a task holds: its cells at zero, its scratches, its rows of the inputs and, the first `k` of either parity done, of the
    result. -/
def taskHas (k : ℕ) : sProp 𝕄 :=
  iprop(inIdle d L A X W 0 A.sx.sem A.sw.sem A.xb A.wb ∗ inIdle d L A X W 1 A.sx'.sem A.sw'.sem A.xb' A.wb'
    ∗ outIdle d L A X W 0 k A.so.sem A.ob ∗ outIdle d L A X W 1 k A.so'.sem A.ob')

/-- The whole task: every row of the result done, everything else back. -/
theorem task_holds {O : CellTallies nD τ sig (HIx 1)} {Q : PUnit → sProp 𝕄} :
    iprop(MayWaits (thr d L) (default : HIx 1) O ∗ (∃ V, owes (thr d L) O V) ∗ taskHas d L A X W 0)
      ⊢ iprop((iprop((∃ V, owes (thr d L) O V) ∗ taskHas d L A X W 32) -∗ Q ⟨⟩)
          -∗ wp frame (wpE (defs₀ (F := F)) 𝒱₀ (thr d L) none) Set.univ
            (cc0__sc_interp L A.x A.hx A.w A.hw A.o A.ho A.xb A.hxb A.xb' A.hxb' A.wb A.hwb A.wb' A.hwb' A.ob A.hob A.ob' A.hob'
              A.sx A.sx' A.sw A.sw' A.so A.so') Q) := by
  rw [cc0__sc_interp_eq_skeleton]
  unfold cc0__sc_interp_skel taskHas
  simp only [Prog.lift, Prog.bind_op, Prog.bind_ret, Prog.pure_eq_ret, Prog.bind_assoc]
  iintro ⟨#Hm, HO, Hin, Hin', Hout, Hout'⟩ Hk
  iapply (step_fetch d L A X W (p := 0) (k := 0) (by decide)
    (rowN_eq A.x (k0_off1_eq L) (rw_lt L (p := 0) (j := 0) (by decide) (by decide)) _)
    (rowN_eq A.w (k0_off1_eq L) (rw_lt L (p := 0) (j := 0) (by decide) (by decide)) _)) $$ Hin
  iintro Hin
  iapply (Scf.wp_for_bind frame (wpE (defs₀ (F := F)) 𝒱₀ (thr d L) none) Set.univ _ _ _ k0_t1_ok (⟨⟩ : Unit) _
    (fun k _ => tripInv d L A X W O k) (fun t u => trip_body d L A X W _ t u)) $$ [HO Hin Hin' Hout Hout']
  · unfold tripInv
    isplitr; · iexact Hm
    isplitl [HO]; · iexact HO
    isplitl [Hin]; · iapply (Entails.of_eq (show inSt d L A X W 0 = _ from if_pos (by decide)).symm); iexact Hin
    isplitl [Hin']; · iexact Hin'
    isplitl [Hout]
    · iapply (Entails.of_eq (outSt_zero d L A X W).symm); iexact Hout
    iapply (Entails.of_eq (outSt_zero d L A X W).symm); iexact Hout'
  iintro %acc H
  ihave H := (Entails.of_eq (show tripInv d L A X W O k0_t1_loop.trips = tripInv d L A X W O 32 from rfl)) $$ H
  unfold tripInv
  icases H with ⟨-, HO, Hin, Hin', Hout, Hout'⟩
  ihave Hin := (Entails.of_eq (show inSt d L A X W 32 = _ from if_neg (by decide))) $$ Hin
  ihave Hout := (Entails.of_eq (outSt_succ d L A X W (p := 0) (k := 31))) $$ Hout
  ihave Hout' := (Entails.of_eq (outSt_succ d L A X W (p := 1) (k := 31))) $$ Hout'
  iapply (step_sent d L A X W (p := 0) (k := 31) (by decide) (row_credit _ _ _ _)) $$ [Hout HO]
  · isplitl [Hout]; · iexact Hout
    isplitl [HO]; · iexact HO
    iexact Hm
  iintro ⟨Hout, HO⟩
  iapply (step_sent d L A X W (p := 1) (k := 31) (by decide) (row_credit _ _ _ _)) $$ [Hout' HO]
  · isplitl [Hout']; · iexact Hout'
    isplitl [HO]; · iexact HO
    iexact Hm
  iintro ⟨Hout', HO⟩
  rw [wp_ret]
  imodintro
  iapply Hk
  isplitl [HO]; · iexact HO
  isplitl [Hin]; · iexact Hin
  isplitl [Hin']; · iexact Hin'
  isplitl [Hout]; · iexact Hout
  iexact Hout'

end Trip

end Cert.Proof.Interp

end
-- ==== Proof.Rows.lean ====
/-
  The rows of the arrays: which elements a row is, that the rows of an array are the array, dealt by SparseCore, vector
  subcore, parity and step, and what the arrays hold before and after the call.
-/
module

public import Idealize.ShloMosaic.Lib.SparseCore.Quiescent
public import Idealize.ShloMosaic.Lib.StableHlo.Run
public import proofs.«01_k».proof.Proof.Trip

@[expose] public section

set_option maxRecDepth 16384

noncomputable section

namespace Cert.Proof.Interp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The arrays -/

/-- Where the spectra are. -/
abbrev xLoc (d : Dev nD) : Loc nD τ sig := (SparseCore.T d).loc main_arg0
/-- Where the wavelengths are. -/
abbrev wLoc (d : Dev nD) : Loc nD τ sig := (SparseCore.T d).loc main_arg1
/-- Where the grids are. -/
abbrev gLoc (d : Dev nD) : Loc nD τ sig := (SparseCore.T d).loc main_arg2
/-- Where the result is. -/
abbrev oLoc (d : Dev nD) : Loc nD τ sig := (SparseCore.T d).loc main_v0

local notation "xV" => (Memref.whole Cert.KernelIdeal.main_arg0_scv : Memref Cert.KernelIdeal.sig Kind.scVector Space.hbm Cert.KernelIdeal.S2048x8192 EltTy.f32)
local notation "wV" => (Memref.whole Cert.KernelIdeal.main_arg1_scv : Memref Cert.KernelIdeal.sig Kind.scVector Space.hbm Cert.KernelIdeal.S2048x8192 EltTy.f32)
local notation "oV" => (Memref.whole Cert.KernelIdeal.main_v0_scv : Memref Cert.KernelIdeal.sig Kind.scVector Space.hbm Cert.KernelIdeal.S2048x8192 EltTy.f32)

/-- Element `j` of row `n`. -/
def cellAt (n : ℕ) (j : S8192.Idx) : S2048x8192.Idx :=
  fun | 0 => (⟨min n 2047, by show min n 2047 < 2048; omega⟩ : Fin 2048) | 1 => (j 0 : Fin 8192)
      | ⟨_ + 2, h⟩ => absurd h (Nat.not_lt.2 (Nat.le_add_left _ _))

/-- The place of an element within its row. -/
def colOf (i : S2048x8192.Idx) : S8192.Idx :=
  fun | 0 => (i 1 : Fin 8192) | ⟨_ + 1, h⟩ => absurd h (Nat.not_lt.2 (Nat.le_add_left _ _))

/-- The elements of row `n`. -/
def rowSet (n : ℕ) : Finset S2048x8192.Idx := Finset.univ.filter fun i => (i 0).val = min n 2047

/-- An element of an array is the one at its place in its row. -/
theorem cellAt_colOf (i : S2048x8192.Idx) : cellAt (i 0).val (colOf i) = i := by
  funext a
  match a with
  | 0 =>
    have h : (i 0).val < 2048 := (i 0).isLt
    exact Fin.ext (show min (i 0).val 2047 = (i 0).val by omega)
  | 1 => rfl

/-- The column of a row's cell is the one it was made from. -/
theorem colOf_cellAt (n : ℕ) (j : S8192.Idx) : colOf (cellAt n j) = j := by
  funext a
  match a with
  | 0 => rfl

/-- The sub-rectangle of row `n`. -/
abbrev rowRect (n : ℕ) : Rect S2048x8192 := Rect.unit (s := S2048x8192) ![min n 2047, 0] S1x8192.size (rowN_inb n)

/-- A place of the row's rectangle is the row's cell at that column. -/
theorem rowRect_emb (n : ℕ) (j : S8192.Idx) :
    (rowRect n).emb (Shape.reshapeEquiv squeezes_S1x8192_S8192.numel_eq j) = cellAt n j := by
  rw [show Shape.reshapeEquiv squeezes_S1x8192_S8192.numel_eq j = Fin.cons ⟨0, Nat.one_pos⟩ j from
    Shape.reshapeEquiv_cons_one (n := 1) (d := S8192.size) _ j]
  funext a
  match a with
  | 0 => exact Fin.ext (by show min n 2047 + 1 * 0 = min n 2047; omega)
  | 1 => exact Fin.ext (by show 0 + 1 * (j 0).val = (j 0).val; omega)

/-- The row's rectangle covers the row's elements. -/
theorem rowRect_set (n : ℕ) : (rowRect n).set = rowSet n := by
  ext i
  rw [Rect.mem_set_unit, rowSet, Finset.mem_filter]
  constructor
  · intro h
    have h0 := h 0
    refine ⟨Finset.mem_univ _, ?_⟩
    have h1 : min n 2047 ≤ (i 0).val ∧ (i 0).val < min n 2047 + 1 := h0
    omega
  · rintro ⟨-, h⟩ a
    match a with
    | 0 => show min n 2047 ≤ (i 0).val ∧ (i 0).val < min n 2047 + 1; omega
    | 1 =>
      have h1 : (i 1).val < 8192 := (i 1).isLt
      show 0 ≤ (i 1).val ∧ (i 1).val < 0 + 8192; omega

/-- The view of a row of the spectra covers that row. -/
theorem set_x (n : ℕ) : (rowN xV n).view.set = rowSet n := by
  show (((xV).view.slice (rowRect n)).reshape S8192 squeezes_S1x8192_S8192.numel_eq).set = _
  rw [View.set_reshape]
  exact (View.set_slice_whole main_arg0_scv (rowRect n)).trans (rowRect_set n)
/-- The view of a row of the wavelengths covers that row. -/
theorem set_w (n : ℕ) : (rowN wV n).view.set = rowSet n := by
  show (((wV).view.slice (rowRect n)).reshape S8192 squeezes_S1x8192_S8192.numel_eq).set = _
  rw [View.set_reshape]
  exact (View.set_slice_whole main_arg1_scv (rowRect n)).trans (rowRect_set n)
/-- The view of a row of the result covers that row. -/
theorem set_o (n : ℕ) : (rowN oV n).view.set = rowSet n := by
  show (((oV).view.slice (rowRect n)).reshape S8192 squeezes_S1x8192_S8192.numel_eq).set = _
  rw [View.set_reshape]
  exact (View.set_slice_whole main_v0_scv (rowRect n)).trans (rowRect_set n)

/-- What row `n` of an array's contents reads. -/
theorem read_x (n : ℕ) (f : S2048x8192.Idx → F .f32) : (rowN xV n).view.read (Elt F) f = fun j => f (cellAt n j) := by
  funext j
  exact congrArg f (rowRect_emb n j)
/-- The view of a row of the wavelengths reads the row's cells. -/
theorem read_w (n : ℕ) (f : S2048x8192.Idx → F .f32) : (rowN wV n).view.read (Elt F) f = fun j => f (cellAt n j) := by
  funext j
  exact congrArg f (rowRect_emb n j)
/-- The view of a row of the result reads the row's cells. -/
theorem read_o (n : ℕ) (f : S2048x8192.Idx → F .f32) : (rowN oV n).view.read (Elt F) f = fun j => f (cellAt n j) := by
  funext j
  exact congrArg f (rowRect_emb n j)

/-- Contents that read the same along a row are the same on the row's elements. -/
theorem eqOn_row {n : ℕ} {f g : S2048x8192.Idx → F .f32} (h : (fun j => f (cellAt n j)) = fun j => g (cellAt n j)) :
    ∀ i ∈ rowSet n, f i = g i := by
  intro i hi
  have hi' : (i 0).val = min n 2047 := (Finset.mem_filter.mp hi).2
  have e : cellAt n (colOf i) = i := by
    rw [← show cellAt (i 0).val (colOf i) = cellAt n (colOf i) from by
      rw [hi']; funext a
      match a with
      | 0 => exact Fin.ext (show min (min n 2047) 2047 = min n 2047 by omega)
      | 1 => rfl]
    exact cellAt_colOf i
  rw [← e]; exact congrFun h (colOf i)

/-! ## The rows are the array -/

/-- Different rows share no element. -/
theorem rows_disjoint : ∀ i ∈ Finset.range 2048, ∀ j ∈ Finset.range 2048, i ≠ j → Disjoint (rowSet i) (rowSet j) := by
  intro i hi j hj h
  rw [Finset.mem_range] at hi hj
  rw [Finset.disjoint_left]
  intro x hx hy
  have h1 := (Finset.mem_filter.mp hx).2
  have h2 := (Finset.mem_filter.mp hy).2
  omega

/-- The rows are the whole array. -/
theorem rows_cover : (Finset.range 2048).biUnion rowSet = Finset.univ := by
  ext i
  have h : (i 0).val < 2048 := (i 0).isLt
  simp only [Finset.mem_biUnion, Finset.mem_range, Finset.mem_univ, iff_true]
  exact ⟨(i 0).val, h, Finset.mem_filter.mpr ⟨Finset.mem_univ _, by omega⟩⟩

/-- The spectra are held row by row. -/
theorem xPts_rows (d : Dev nD) (f : Buf (Elt F) (xLoc d)) :
    (xLoc d ↦{fullShare} f : sProp 𝕄) = bigSep (Finset.range 2048) fun n => xLoc d ↦[rowSet n]{fullShare} f := by
  rw [← pointsTo_biUnion (Finset.range 2048) (ℓ := xLoc d) rowSet rows_disjoint, rows_cover]
/-- The wavelengths are held row by row. -/
theorem wPts_rows (d : Dev nD) (f : Buf (Elt F) (wLoc d)) :
    (wLoc d ↦{fullShare} f : sProp 𝕄) = bigSep (Finset.range 2048) fun n => wLoc d ↦[rowSet n]{fullShare} f := by
  rw [← pointsTo_biUnion (Finset.range 2048) (ℓ := wLoc d) rowSet rows_disjoint, rows_cover]
/-- The result is held row by row. -/
theorem oPts_rows (d : Dev nD) (f : Buf (Elt F) (oLoc d)) :
    (oLoc d ↦{fullShare} f : sProp 𝕄) = bigSep (Finset.range 2048) fun n => oLoc d ↦[rowSet n]{fullShare} f := by
  rw [← pointsTo_biUnion (Finset.range 2048) (ℓ := oLoc d) rowSet rows_disjoint, rows_cover]

/-! ## The rows dealt -/

/-- The 64 rows from `b`, by parity. -/
def fam (Φ : ℕ → sProp 𝕄) (b : ℕ) : sProp 𝕄 :=
  iprop(bigSep (Finset.range 32) (fun j => Φ (b + 2 * j + 0)) ∗ bigSep (Finset.range 32) (fun j => Φ (b + 2 * j + 1)))

/-- The row dealt to a SparseCore, a vector subcore, a parity and a step. -/
def dealt (t : (Fin 2 × Fin 16) × (Fin 2 × ℕ)) : ℕ := 128 * t.1.2.val + 64 * t.1.1.val + 2 * t.2.2 + t.2.1.val

/-- No row is dealt twice. -/
theorem dealt_injOn : Set.InjOn dealt
    (((Finset.univ ×ˢ Finset.univ) ×ˢ (Finset.univ ×ˢ Finset.range 32) : Finset ((Fin 2 × Fin 16) × (Fin 2 × ℕ))) : Set _) := by
  rintro ⟨⟨c, i⟩, p, j⟩ h ⟨⟨c', i'⟩, p', j'⟩ h' e
  simp only [Finset.coe_product, Finset.coe_univ, Set.mem_prod, Set.mem_univ, true_and, Finset.coe_range, Set.mem_Iio] at h h'
  simp only [dealt] at e
  have hc := c.isLt; have hc' := c'.isLt; have hp := p.isLt; have hp' := p'.isLt
  have e1 : c = c' := Fin.ext (by omega)
  have e2 : i = i' := Fin.ext (by omega)
  have e3 : p = p' := Fin.ext (by omega)
  have e4 : j = j' := by omega
  rw [e1, e2, e3, e4]

/-- Every row is dealt. -/
theorem dealt_image :
    ((Finset.univ ×ˢ Finset.univ) ×ˢ (Finset.univ ×ˢ Finset.range 32) : Finset ((Fin 2 × Fin 16) × (Fin 2 × ℕ))).image dealt = Finset.range 2048 := by
  ext n
  simp only [Finset.mem_image, Finset.mem_product, Finset.mem_univ, true_and, Finset.mem_range]
  constructor
  · rintro ⟨⟨⟨c, i⟩, p, j⟩, h, rfl⟩
    have hc := c.isLt; have hi := i.isLt; have hp := p.isLt
    simp only at h
    simp only [dealt]; omega
  · intro h
    refine ⟨⟨⟨⟨n / 64 % 2, by omega⟩, ⟨n / 128, by omega⟩⟩, ⟨n % 2, by omega⟩, n % 64 / 2⟩, ?_, ?_⟩
    · simp only; omega
    · simp only [dealt]; omega

/-- All 2048 rows are the two SparseCores' sixteen subcores' 64 rows. -/
theorem rows_dealt (Φ : ℕ → sProp 𝕄) :
    bigSep (Finset.range 2048) Φ
      = bigSep Finset.univ fun c : Fin 2 => bigSep Finset.univ fun i : Fin 16 => fam Φ (128 * i.val + 64 * c.val) := by
  rw [← dealt_image, SparseCore.bigSep_image_of_injOn dealt_injOn, SparseCore.bigSep_product, SparseCore.bigSep_product]
  refine bigSep_congr fun c _ => bigSep_congr fun i _ => ?_
  rw [SparseCore.bigSep_product, BI.bigSep_fin_two]
  rfl

end Cert.Proof.Interp

end
-- ==== Proof.Launch.lean ====
/-
  The launch: what the call carries to the subcores and back, one subcore's obligation from its task, the call on the
  TensorCore, and the program's run, with the result's value, over any floats.
-/
module

public import proofs.«01_k».proof.Proof.Rows

@[expose] public section

set_option maxRecDepth 16384

noncomputable section

namespace Cert.Proof.Interp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S2048x8192 EltTy.f32)
local notation "wV" => (Memref.whole Cert.KernelIdeal.main_arg1_scv : Memref Cert.KernelIdeal.sig Kind.scVector Space.hbm Cert.KernelIdeal.S2048x8192 EltTy.f32)
local notation "oV" => (Memref.whole Cert.KernelIdeal.main_v0_scv : Memref Cert.KernelIdeal.sig Kind.scVector Space.hbm Cert.KernelIdeal.S2048x8192 EltTy.f32)

/-- The call's semaphores are distinct and outlive it. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)
variable [FloatOps F]

/-! ## What the arrays hold -/

/-- Row `n` of the spectra. -/
def X (d : Dev nD) (n : ℕ) : S8192.Idx → F .f32 := fun j => (m (xLoc d) : S2048x8192.Idx → F .f32) (cellAt n j)
/-- Row `n` of the wavelengths. -/
def W (d : Dev nD) (n : ℕ) : S8192.Idx → F .f32 := fun j => (m (wLoc d) : S2048x8192.Idx → F .f32) (cellAt n j)
/-- The result: each row interpolated from its row of the spectra at its row of the wavelengths. -/
def G (d : Dev nD) : S2048x8192.Idx → F .f32 := fun i => outRow (X m d) (W m d) (i 0).val (colOf i)

/-- Row `n` of the result is the interpolated row. -/
theorem G_row (d : Dev nD) {n : ℕ} (hn : n < 2048) : (fun j => G m d (cellAt n j)) = outRow (X m d) (W m d) n := by
  funext j
  show outRow (X m d) (W m d) (min n 2047) (colOf (cellAt n j)) = _
  rw [colOf_cellAt, show min n 2047 = n by omega]

/-! ## What the handshakes carry -/

/-- Row `n` of the two inputs and of the result, the result's at `g`. -/
def rowsAt (d : Dev nD) (g : Buf (Elt F) (oLoc d)) (n : ℕ) : sProp 𝕄 :=
  iprop((xLoc d ↦[rowSet n]{fullShare} m (xLoc d)) ∗ (wLoc d ↦[rowSet n]{fullShare} m (wLoc d)) ∗ (oLoc d ↦[rowSet n]{fullShare} g))

/-- What one subcore takes and brings back: its 64 rows, the result's at `g`. -/
def tileRows (d : Dev nD) (g : Buf (Elt F) (oLoc d)) (c i : ℕ) : sProp 𝕄 := fam (rowsAt m d g) (128 * i + 64 * c)

/-- What one SparseCore takes and brings back: its sixteen subcores' rows. -/
def coreRows (d : Dev nD) (g : Buf (Elt F) (oLoc d)) (c : ℕ) : sProp 𝕄 := bigSep Finset.univ fun i : Fin 16 => tileRows m d g c i.val

/-- A row of the three arrays may be carried by a handshake. -/
instance rowsAt_storable (d : Dev nD) (g : Buf (Elt F) (oLoc d)) (n : ℕ) : BI.Storable (upEmb : UEmb _ 𝕄) (rowsAt m d g n) := by
  unfold rowsAt; infer_instance
/-- So may a vector subcore's rows. -/
instance tileRows_storable (d : Dev nD) (g : Buf (Elt F) (oLoc d)) (c i : ℕ) : BI.Storable (upEmb : UEmb _ 𝕄) (tileRows m d g c i) := by
  unfold tileRows fam; infer_instance
/-- So may a SparseCore's rows. -/
instance coreRows_storable (d : Dev nD) (g : Buf (Elt F) (oLoc d)) (c : ℕ) : BI.Storable (upEmb : UEmb _ 𝕄) (coreRows m d g c) := by
  unfold coreRows; infer_instance

/-- A SparseCore's rows are those of its sixteen vector subcores. -/
theorem coreRows_eq (d : Dev nD) (g : Buf (Elt F) (oLoc d)) (c : ℕ) :
    coreRows m d g c = bigSep Finset.univ fun i : Fin 16 => tileRows m d g c i.val := rfl

attribute [irreducible] coreRows

/-- The one call takes the rows, the result's at the launch memory's, and brings them back, the result's at the
    interpolated rows. -/
def P : (K (F := F)).Pay (nD := nD) (Val := Elt F) (Name := ℕ) (U := UU) where
  st := fun q d c => match q with | 0 => coreRows m d (m (oLoc d)) c.val
  dn := fun q d c => match q with | 0 => coreRows m d (G m d) c.val
  go := fun q d c i => match q with | 0 => tileRows m d (m (oLoc d)) c.val i.val
  td := fun q d c i => match q with | 0 => tileRows m d (G m d) c.val i.val
  x := fun _ _ => iprop(emp)

/-- The call hands a SparseCore its rows as they are at the start. -/
theorem P_st (d : Dev nD) (c : Fin ((K (F := F)).nCore 0)) : (P m).st 0 d c = coreRows m d (m (oLoc d)) c.val := rfl
/-- The call takes them back with the result's rows interpolated. -/
theorem P_dn (d : Dev nD) (c : Fin ((K (F := F)).nCore 0)) : (P m).dn 0 d c = coreRows m d (G m d) c.val := rfl
/-- A SparseCore hands a vector subcore its rows as they are at the start. -/
theorem P_go (d : Dev nD) (c : Fin ((K (F := F)).nCore 0)) (i : Fin ((K (F := F)).nSub 0)) :
    (P m).go 0 d c i = tileRows m d (m (oLoc d)) c.val i.val := rfl
/-- It takes them back with the result's rows interpolated. -/
theorem P_td (d : Dev nD) (c : Fin ((K (F := F)).nCore 0)) (i : Fin ((K (F := F)).nSub 0)) :
    (P m).td 0 d c i = tileRows m d (G m d) c.val i.val := rfl

/-- All that the handshakes carry may be carried. -/
instance P_storable : (P (F := F) m).IsStorable where
  st q d c := match q with | 0 => by rw [P_st]; exact coreRows_storable m d (m (oLoc d)) c.val
  dn q d c := match q with | 0 => by rw [P_dn]; exact coreRows_storable m d (G m d) c.val
  go q d c i := match q with | 0 => by rw [P_go]; exact tileRows_storable m d (m (oLoc d)) c.val i.val
  td q d c i := match q with | 0 => by rw [P_td]; exact tileRows_storable m d (G m d) c.val i.val

/-! ## The task -/

section Tile

variable (d : Dev nD) (L : grid0.Coords)

/-- The task's arguments, as the body table passes them. -/
abbrev args : Args where
  x := xV
  hx := Memref.isWhole_whole _
  w := wV
  hw := Memref.isWhole_whole _
  o := oV
  ho := Memref.isWhole_whole _
  xb := Memref.whole cc0_scratch0
  hxb := Memref.isWhole_whole _
  xb' := Memref.whole cc0_scratch1
  hxb' := Memref.isWhole_whole _
  wb := Memref.whole cc0_scratch2
  hwb := Memref.isWhole_whole _
  wb' := Memref.whole cc0_scratch3
  hwb' := Memref.isWhole_whole _
  ob := Memref.whole cc0_scratch4
  hob := Memref.isWhole_whole _
  ob' := Memref.whole cc0_scratch5
  hob' := Memref.isWhole_whole _
  sx := cc0_scratch6
  sx' := cc0_scratch7
  sw := cc0_scratch8
  sw' := cc0_scratch9
  so := cc0_scratch10
  so' := cc0_scratch11

/-- A row of the spectra, at the launch memory's, reads its row. -/
theorem x_holds (n : ℕ) : (xLoc d ↦[rowSet n]{fullShare} m (xLoc d) : sProp 𝕄) ⊢ Holds (F := F) (thr d L) (rowN xV n) (X m d n) := by
  rw [← set_x n, show X m d n = (rowN xV n).view.read (Elt F) (m (xLoc d)) from (read_x n _).symm]
  exact Holds.intro (thr d L) (M := rowN xV n) (m (xLoc d))
/-- A row of the wavelengths is what the program's view of it reads. -/
theorem w_holds (n : ℕ) : (wLoc d ↦[rowSet n]{fullShare} m (wLoc d) : sProp 𝕄) ⊢ Holds (F := F) (thr d L) (rowN wV n) (W m d n) := by
  rw [← set_w n, show W m d n = (rowN wV n).view.read (Elt F) (m (wLoc d)) from (read_w n _).symm]
  exact Holds.intro (thr d L) (M := rowN wV n) (m (wLoc d))
/-- A row of the result is what the program's view of it reads. -/
theorem o_holds (n : ℕ) (g : Buf (Elt F) (oLoc d)) :
    (oLoc d ↦[rowSet n]{fullShare} g : sProp 𝕄) ⊢ Holds (F := F) (thr d L) (rowN oV n) (fun j => (g : S2048x8192.Idx → F .f32) (cellAt n j)) := by
  rw [← set_o n, ← read_o n g]
  exact Holds.intro (thr d L) (M := rowN oV n) g

/-- Reading its row, a row of the spectra is at the launch memory's. -/
theorem holds_x (n : ℕ) : Holds (F := F) (thr d L) (rowN xV n) (X m d n) ⊢ (xLoc d ↦[rowSet n]{fullShare} m (xLoc d) : sProp 𝕄) := by
  unfold Holds
  iintro ⟨%f, %hf, H⟩
  ihave H := (Entails.of_eq (show ((rowN xV n).view.loc (thr d L) ↦[(rowN xV n).view.set]{fullShare} f : sProp 𝕄) = xLoc d ↦[rowSet n]{fullShare} m (xLoc d) from by
    rw [set_x n]; exact pointsTo_congr (ℓ := xLoc d) (eqOn_row ((read_x n f).symm.trans hf)))) $$ H
  iexact H
/-- What the view of a row of the wavelengths reads is that row. -/
theorem holds_w (n : ℕ) : Holds (F := F) (thr d L) (rowN wV n) (W m d n) ⊢ (wLoc d ↦[rowSet n]{fullShare} m (wLoc d) : sProp 𝕄) := by
  unfold Holds
  iintro ⟨%f, %hf, H⟩
  ihave H := (Entails.of_eq (show ((rowN wV n).view.loc (thr d L) ↦[(rowN wV n).view.set]{fullShare} f : sProp 𝕄) = wLoc d ↦[rowSet n]{fullShare} m (wLoc d) from by
    rw [set_w n]; exact pointsTo_congr (ℓ := wLoc d) (eqOn_row ((read_w n f).symm.trans hf)))) $$ H
  iexact H
/-- A row of the result that reads as interpolated is the final array's row. -/
theorem holds_o {n : ℕ} (hn : n < 2048) :
    Holds (F := F) (thr d L) (rowN oV n) (outRow (X m d) (W m d) n) ⊢ (oLoc d ↦[rowSet n]{fullShare} G m d : sProp 𝕄) := by
  unfold Holds
  iintro ⟨%f, %hf, H⟩
  ihave H := (Entails.of_eq (show ((rowN oV n).view.loc (thr d L) ↦[(rowN oV n).view.set]{fullShare} f : sProp 𝕄) = oLoc d ↦[rowSet n]{fullShare} G m d from by
    rw [set_o n]; exact pointsTo_congr (ℓ := oLoc d) (eqOn_row ((read_o n f).symm.trans (hf.trans (G_row m d hn).symm))))) $$ H
  iexact H

/-- A row of the three arrays, as the call deals it, is the task's row of the inputs and of the result. -/
theorem row_in (p j : ℕ) :
    rowsAt m d (m (oLoc d)) (rw' L p j) ⊢ iprop(inRow d L args (X m d) (W m d) p j ∗ resRow d L args (X m d) (W m d) p 0 j) := by
  unfold rowsAt inRow resRow
  iintro ⟨Hx, Hw, Ho⟩
  isplitl [Hx Hw]
  · isplitl [Hx]; · iapply (x_holds m d L _); iexact Hx
    iapply (w_holds m d L _); iexact Hw
  iexists _
  isplitr
  swap; · iapply (o_holds d L _ _); iexact Ho
  ipureintro; intro h; exact absurd h (Nat.not_lt_zero _)

/-- The task's row of the inputs and of the result, done, is the row of the three arrays as the call takes it back. -/
theorem row_out {p j : ℕ} (hp : p < 2) (hj : j < 32) :
    iprop(inRow d L args (X m d) (W m d) p j ∗ resRow d L args (X m d) (W m d) p 32 j) ⊢ rowsAt m d (G m d) (rw' L p j) := by
  unfold rowsAt inRow resRow
  iintro ⟨⟨Hx, Hw⟩, %v, %hv, Ho⟩
  obtain rfl := hv hj
  isplitl [Hx]; · iapply (holds_x m d L _); iexact Hx
  isplitl [Hw]; · iapply (holds_w m d L _); iexact Hw
  iapply (holds_o m d L (rw_lt L hp hj)); iexact Ho

/-- A family's rows, as the call deals them, are the rows the task starts with. -/
theorem fam_in (p : ℕ) :
    (bigSep (Finset.range 32) fun j => rowsAt m d (m (oLoc d)) (rw' L p j) : sProp 𝕄)
      ⊢ iprop(bigSep (Finset.range 32) (inRow d L args (X m d) (W m d) p) ∗ bigSep (Finset.range 32) (resRow d L args (X m d) (W m d) p 0)) := by
  rw [← bigSep_sep']
  exact bigSep_mono fun j _ => row_in m d L p j

/-- The rows the task ends with, every one done, are the family's rows as the call takes them back. -/
theorem fam_out {p : ℕ} (hp : p < 2) :
    iprop(bigSep (Finset.range 32) (inRow d L args (X m d) (W m d) p) ∗ bigSep (Finset.range 32) (resRow d L args (X m d) (W m d) p 32))
      ⊢ (bigSep (Finset.range 32) fun j => rowsAt m d (G m d) (rw' L p j) : sProp 𝕄) := by
  rw [← bigSep_sep']
  exact bigSep_mono fun j hj => row_out m d L hp (Finset.mem_range.mp hj)

end Tile

end Cert.Proof.Interp

end
-- ==== Proof.Run.lean ====
/-
  The program's run: one subcore's obligation from its task, the call on the TensorCore, and the run over any floats with the
  result's value, from which the frames of both programs follow.
-/
module

public import proofs.«01_k».proof.Proof.Launch

@[expose] public section

set_option maxRecDepth 16384

noncomputable section

namespace Cert.Proof.Interp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

/-! ## The subcore's own cells and scratches -/

/-- A scratch, whole at some contents, is owned, and the other way round. -/
theorem owned_whole (b : Ref sig (thr d L).2.kind) :
    (iprop(∃ f, (thr d L).loc b ↦{fullShare} f) : sProp 𝕄) ⊢ Owned (F := F) (thr d L) (Memref.whole b) := by
  iintro ⟨%f, H⟩
  iapply (Holds.owned (F := F) (thr d L))
  iapply (Holds.intro (F := F) (thr d L) (M := Memref.whole b) f)
  iapply (Entails.of_eq (show ((thr d L).loc b ↦{fullShare} f : sProp 𝕄)
    = ((Memref.whole b).view.loc (thr d L) ↦[(Memref.whole b).view.set]{fullShare} f) from by
      rw [show (Memref.whole b).view.set = Finset.univ from View.set_whole b]))
  iexact H
/-- Owning all of a buffer by its view is holding the buffer, whatever its contents. -/
theorem whole_owned (b : Ref sig (thr d L).2.kind) :
    Owned (F := F) (thr d L) (Memref.whole b) ⊢ (iprop(∃ f, (thr d L).loc b ↦{fullShare} f) : sProp 𝕄) := by
  unfold Owned Holds
  iintro ⟨%v, %f, -, H⟩
  iexists f
  iapply (Entails.of_eq (show ((thr d L).loc b ↦{fullShare} f : sProp 𝕄)
    = ((Memref.whole b).view.loc (thr d L) ↦[(Memref.whole b).view.set]{fullShare} f) from by
      rw [show (Memref.whole b).view.set = Finset.univ from View.set_whole b]).symm)
  iexact H

/-- The task's cell over a copy's semaphores. -/
abbrev cell (s : DmaSems sig S_) : GSem nD τ sig := (thr d L, .dma s.sem)

/-- A cell of a scoped copy semaphore is among the subcore's own. -/
theorem cell_own (s : DmaSems sig S_) (h : (SemLoc.dma s.sem : SemLoc sig).isScoped .scVector = true) :
    cell d L s ∈ ownCells (thr d L) := (mem_ownCells (g := cell d L s)).mpr ⟨rfl, h⟩

/-- Different semaphores have different cells. -/
theorem cell_ne {s s' : DmaSems sig S_} (h : s.sem ≠ s'.sem) : cell d L s ≠ cell d L s' := by
  intro e
  exact h (SemLoc.dma.inj (Prod.mk.inj e).2)

/-- The subcore's own cells are the six of its copies, and the rest. -/
theorem ownSems0_thr :
    ∃ R : sProp 𝕄, (ownSems0 (thr d L) : sProp 𝕄)
      = iprop(semVal (cell d L cc0_scratch6) 0 ∗ semVal (cell d L cc0_scratch7) 0 ∗ semVal (cell d L cc0_scratch8) 0
          ∗ semVal (cell d L cc0_scratch9) 0 ∗ semVal (cell d L cc0_scratch10) 0 ∗ semVal (cell d L cc0_scratch11) 0 ∗ R) := by
  apply Exists.intro
  unfold SparseCore.Cfg.ownSems0
  rw [SparseCore.bigSep_erase' (cell_own d L cc0_scratch6 (by decide)),
    SparseCore.bigSep_erase' (i := cell d L cc0_scratch7) (by
      simp only [Finset.mem_erase]
      exact ⟨cell_ne d L (by decide), cell_own d L cc0_scratch7 (by decide)⟩),
    SparseCore.bigSep_erase' (i := cell d L cc0_scratch8) (by
      simp only [Finset.mem_erase]
      exact ⟨cell_ne d L (by decide), cell_ne d L (by decide), cell_own d L cc0_scratch8 (by decide)⟩),
    SparseCore.bigSep_erase' (i := cell d L cc0_scratch9) (by
      simp only [Finset.mem_erase]
      exact ⟨cell_ne d L (by decide), cell_ne d L (by decide), cell_ne d L (by decide), cell_own d L cc0_scratch9 (by decide)⟩),
    SparseCore.bigSep_erase' (i := cell d L cc0_scratch10) (by
      simp only [Finset.mem_erase]
      exact ⟨cell_ne d L (by decide), cell_ne d L (by decide), cell_ne d L (by decide), cell_ne d L (by decide),
        cell_own d L cc0_scratch10 (by decide)⟩),
    SparseCore.bigSep_erase' (i := cell d L cc0_scratch11) (by
      simp only [Finset.mem_erase]
      exact ⟨cell_ne d L (by decide), cell_ne d L (by decide), cell_ne d L (by decide), cell_ne d L (by decide), cell_ne d L (by decide),
        cell_own d L cc0_scratch11 (by decide)⟩)]

/-- A scratch of the vector subcore, among the device's buffers. -/
abbrev sref (b : Ref sig .scVector) : DevRef τ sig := (Proc.scVector (cV L) (jV L)).devRef b

/-- Different scratches are different buffers. -/
theorem sref_ne {b b' : Ref sig .scVector} (h : b ≠ b') : sref L b ≠ sref L b' := fun e => h (Proc.devRef_injective _ e)

/-- The subcore's own buffers are its six scratches, and the rest. -/
theorem ownBufs_thr :
    ∃ R : sProp 𝕄, (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f) ∗ R) := by
  apply Exists.intro
  unfold SparseCore.Cfg.ownBufs
  refine (SparseCore.bigSep_erase' (SparseCore.Cfg.mem_ownRefs_of_owner (p := Proc.scVector (cV L) (jV L)) (b := sref L cc0_scratch0) rfl)).trans ?_
  rw [SparseCore.bigSep_erase' (i := sref L cc0_scratch1) (by
      simp only [Finset.mem_erase]
      exact ⟨sref_ne L (by decide), SparseCore.Cfg.mem_ownRefs_of_owner (p := Proc.scVector (cV L) (jV L)) rfl⟩),
    SparseCore.bigSep_erase' (i := sref L cc0_scratch2) (by
      simp only [Finset.mem_erase]
      exact ⟨sref_ne L (by decide), sref_ne L (by decide), SparseCore.Cfg.mem_ownRefs_of_owner (p := Proc.scVector (cV L) (jV L)) rfl⟩),
    SparseCore.bigSep_erase' (i := sref L cc0_scratch3) (by
      simp only [Finset.mem_erase]
      exact ⟨sref_ne L (by decide), sref_ne L (by decide), sref_ne L (by decide),
        SparseCore.Cfg.mem_ownRefs_of_owner (p := Proc.scVector (cV L) (jV L)) rfl⟩),
    SparseCore.bigSep_erase' (i := sref L cc0_scratch4) (by
      simp only [Finset.mem_erase]
      exact ⟨sref_ne L (by decide), sref_ne L (by decide), sref_ne L (by decide), sref_ne L (by decide),
        SparseCore.Cfg.mem_ownRefs_of_owner (p := Proc.scVector (cV L) (jV L)) rfl⟩),
    SparseCore.bigSep_erase' (i := sref L cc0_scratch5) (by
      simp only [Finset.mem_erase]
      exact ⟨sref_ne L (by decide), sref_ne L (by decide), sref_ne L (by decide), sref_ne L (by decide), sref_ne L (by decide),
        SparseCore.Cfg.mem_ownRefs_of_owner (p := Proc.scVector (cV L) (jV L)) rfl⟩)]

/-! ## The task from what the call deals -/

/-- The subcore's cells, scratches and rows, the result's rows at `g` and each of them the rows `k` steps in. -/
theorem task_start :
    iprop((semVal (cell d L cc0_scratch6) 0 ∗ semVal (cell d L cc0_scratch7) 0 ∗ semVal (cell d L cc0_scratch8) 0
          ∗ semVal (cell d L cc0_scratch9) 0 ∗ semVal (cell d L cc0_scratch10) 0 ∗ semVal (cell d L cc0_scratch11) 0)
        ∗ ((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f))
        ∗ tileRows m d (m (oLoc d)) (L 0).val (L 1).val)
      ⊢ taskHas d L args (X m d) (W m d) 0 := by
  unfold taskHas inIdle outIdle tileRows fam
  iintro ⟨⟨S6, S7, S8, S9, S10, S11⟩, ⟨B0, B1, B2, B3, B4, B5⟩, R0, R1⟩
  ihave R0 := (fam_in m d L 0) $$ R0
  ihave R1 := (fam_in m d L 1) $$ R1
  icases R0 with ⟨I0, O0⟩
  icases R1 with ⟨I1, O1⟩
  isplitl [S6 S8 B0 B2 I0]
  · isplitl [S6]; · iexact S6
    isplitl [S8]; · iexact S8
    isplitl [B0]; · iapply (owned_whole (F := F) d L cc0_scratch0); iexact B0
    isplitl [B2]; · iapply (owned_whole (F := F) d L cc0_scratch2); iexact B2
    iexact I0
  isplitl [S7 S9 B1 B3 I1]
  · isplitl [S7]; · iexact S7
    isplitl [S9]; · iexact S9
    isplitl [B1]; · iapply (owned_whole (F := F) d L cc0_scratch1); iexact B1
    isplitl [B3]; · iapply (owned_whole (F := F) d L cc0_scratch3); iexact B3
    iexact I1
  isplitl [S10 B4 O0]
  · isplitl [S10]; · iexact S10
    isplitl [B4]; · iapply (owned_whole (F := F) d L cc0_scratch4); iexact B4
    iexact O0
  isplitl [S11]; · iexact S11
  isplitl [B5]; · iapply (owned_whole (F := F) d L cc0_scratch5); iexact B5
  iexact O1

/-- What the task ends with is its cells at zero, its scratches and its rows, the result's at the interpolated rows. -/
theorem task_end :
    taskHas d L args (X m d) (W m d) 32
      ⊢ iprop((semVal (cell d L cc0_scratch6) 0 ∗ semVal (cell d L cc0_scratch7) 0 ∗ semVal (cell d L cc0_scratch8) 0
          ∗ semVal (cell d L cc0_scratch9) 0 ∗ semVal (cell d L cc0_scratch10) 0 ∗ semVal (cell d L cc0_scratch11) 0)
        ∗ ((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f))
        ∗ tileRows m d (G m d) (L 0).val (L 1).val) := by
  unfold taskHas inIdle outIdle tileRows fam
  iintro ⟨⟨S6, S8, B0, B2, I0⟩, ⟨S7, S9, B1, B3, I1⟩, ⟨S10, B4, O0⟩, S11, B5, O1⟩
  isplitl [S6 S7 S8 S9 S10 S11]
  · isplitl [S6]; · iexact S6
    isplitl [S7]; · iexact S7
    isplitl [S8]; · iexact S8
    isplitl [S9]; · iexact S9
    isplitl [S10]; · iexact S10
    iexact S11
  isplitl [B0 B1 B2 B3 B4 B5]
  · isplitl [B0]; · iapply (whole_owned (F := F) d L cc0_scratch0); iexact B0
    isplitl [B1]; · iapply (whole_owned (F := F) d L cc0_scratch1); iexact B1
    isplitl [B2]; · iapply (whole_owned (F := F) d L cc0_scratch2); iexact B2
    isplitl [B3]; · iapply (whole_owned (F := F) d L cc0_scratch3); iexact B3
    isplitl [B4]; · iapply (whole_owned (F := F) d L cc0_scratch4); iexact B4
    iapply (whole_owned (F := F) d L cc0_scratch5); iexact B5
  isplitl [I0 O0]
  · iapply (fam_out m d L (p := 0) (by decide))
    isplitl [I0]; · iexact I0
    iexact O0
  iapply (fam_out m d L (p := 1) (by decide))
  isplitl [I1]; · iexact I1
  iexact O1

/-- The task on vector subcore `L 1` of SparseCore `L 0`, as the launch asks for it. -/
theorem tile_body (hF : (K (F := F)).Facts) (O : CellTallies nD τ sig (HIx 1)) (V₀ : Waits sig (HIx 1)) (hO : ∀ g, O g none = 0) :
    iprop(levAts (K (F := F)).L (K (F := F)).lev ∗ emp ∗ tileRows m d (m (oLoc d)) (L 0).val (L 1).val
        ∗ scopedBufs (thr d L) ∗ scopedSems0 (thr d L) ∗ owes (thr d L) O V₀)
      ⊢ wp frame (wpE (defs₀ (F := F)) 𝒱₀ (thr d L) none) Set.univ
          (cc0__sc_interp L args.x args.hx args.w args.hw args.o args.ho args.xb args.hxb args.xb' args.hxb' args.wb args.hwb args.wb' args.hwb'
            args.ob args.hob args.ob' args.hob' args.sx args.sx' args.sw args.sw' args.so args.so')
          fun _ => iprop(tileRows m d (G m d) (L 0).val (L 1).val
            ∗ scopedBufs (thr d L) ∗ scopedSems0 (thr d L)
            ∗ ∃ V₁, ⌜∀ p ∈ V₁, p ∈ V₀ ∨ p.2 = none ∨ p.2 = some (0 : Fin 1)⌝ ∗ owes (thr d L) O V₁) := by
  obtain ⟨Rs, hs⟩ := ownSems0_thr (F := F) d L
  obtain ⟨Rb, hb⟩ := ownBufs_thr (F := F) d L
  rw [(K (F := F)).scopedBufs_V hF d (cV L) (jV L), SparseCore.Cfg.scopedSems0_V (Val := Elt F) d (cV L) (jV L), hs, hb]
  iintro ⟨#Hlv, -, Hrows, ⟨B0, B1, B2, B3, B4, B5, Hbufs⟩, ⟨S6, S7, S8, S9, S10, S11, Hsems⟩, HO⟩
  ihave Hmw := (show levAts (K (F := F)).L (K (F := F)).lev ⊢ MayWaits (thr d L) (default : HIx 1) O from
    (K (F := F)).mayWaits_none (thr := thr d L) hO) $$ Hlv
  ihave Hst := (task_start m d L) $$ [Hrows B0 B1 B2 B3 B4 B5 S6 S7 S8 S9 S10 S11]
  · isplitl [S6 S7 S8 S9 S10 S11]
    · isplitl [S6]; · iexact S6
      isplitl [S7]; · iexact S7
      isplitl [S8]; · iexact S8
      isplitl [S9]; · iexact S9
      isplitl [S10]; · iexact S10
      iexact S11
    isplitl [B0 B1 B2 B3 B4 B5]
    · isplitl [B0]; · iexact B0
      isplitl [B1]; · iexact B1
      isplitl [B2]; · iexact B2
      isplitl [B3]; · iexact B3
      isplitl [B4]; · iexact B4
      iexact B5
    iexact Hrows
  iapply (task_holds d L args (X m d) (W m d) (O := O)) $$ [Hmw Hst HO]
  · isplitl [Hmw]; · iexact Hmw
    isplitl [HO]; · iexists _; iexact HO
    iexact Hst
  iintro ⟨⟨%V₁, HO⟩, Hst⟩
  ihave Hst := (task_end m d L) $$ Hst
  icases Hst with ⟨⟨S6, S7, S8, S9, S10, S11⟩, ⟨B0, B1, B2, B3, B4, B5⟩, Hrows⟩
  isplitl [Hrows]; · iexact Hrows
  isplitl [B0 B1 B2 B3 B4 B5 Hbufs]
  · isplitl [B0]; · iexact B0
    isplitl [B1]; · iexact B1
    isplitl [B2]; · iexact B2
    isplitl [B3]; · iexact B3
    isplitl [B4]; · iexact B4
    isplitl [B5]; · iexact B5
    iexact Hbufs
  isplitl [S6 S7 S8 S9 S10 S11 Hsems]
  · isplitl [S6]; · iexact S6
    isplitl [S7]; · iexact S7
    isplitl [S8]; · iexact S8
    isplitl [S9]; · iexact S9
    isplitl [S10]; · iexact S10
    isplitl [S11]; · iexact S11
    iexact Hsems
  iexists V₁; isplitr
  swap; · iexact HO
  ipureintro; intro p _
  rcases p.2 with _ | q
  · exact .inr (.inl rfl)
  · exact .inr (.inr (congrArg some (Subsingleton.elim q 0)))

/-! ## The obligation -/

/-- The grid point of a SparseCore and a vector subcore. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs is the kernel's body at its grid point. -/
theorem defs₀_vector (c : Fin τ.nSC) (s : Fin τ.nSub) :
    defs₀ (F := F) (.scVector c s) 0 ()
      = SparseCore.onTile hcore0 hsub0 (fun c s => cc0__sc_interp (coordsV c s) args.x args.hx args.w args.hw args.o args.ho args.xb args.hxb
          args.xb' args.hxb' args.wb args.hwb args.wb' args.hwb' args.ob args.hob args.ob' args.hob'
          args.sx args.sx' args.sw args.sw' args.so args.so') ⟨⟩ c s := rfl

/-- Every vector subcore turns the rows it is handed into the rows it hands back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

/-! ## The arrays dealt and taken back -/

/-- What a SparseCore takes is what its subcores take, and what they bring back is what it brings back. -/
theorem vecSplit : (K (F := F)).VecSplit' (P m) 0 := by
  intro d c
  show coreRows m d (m (oLoc d)) c.val ⊢ |={Set.univ}=> iprop(
      (bigSep Finset.univ fun i : Fin 16 => tileRows m d (m (oLoc d)) c.val i.val)
      ∗ ((bigSep Finset.univ fun i : Fin 16 => tileRows m d (G m d) c.val i.val) -∗ coreRows m d (G m d) c.val))
  rw [coreRows_eq, coreRows_eq]
  iintro H; imodintro
  isplitl [H]; · iexact H
  iintro H; iexact H

/-- The two SparseCores' rows are the three arrays, the result at `g`. -/
theorem cores_arrays (d : Dev nD) (g : Buf (Elt F) (oLoc d)) :
    (bigSep Finset.univ fun c : Fin 2 => coreRows m d g c.val : sProp 𝕄)
      = iprop((xLoc d ↦{fullShare} m (xLoc d)) ∗ (wLoc d ↦{fullShare} m (wLoc d)) ∗ (oLoc d ↦{fullShare} g)) := by
  have e : (bigSep Finset.univ fun c : Fin 2 => coreRows m d g c.val : sProp 𝕄) = bigSep (Finset.range 2048) (rowsAt m d g) := by
    rw [rows_dealt]
    exact bigSep_congr fun c _ => coreRows_eq m d g c.val
  rw [e]
  unfold rowsAt
  rw [bigSep_sep', bigSep_sep', ← xPts_rows, ← wPts_rows, ← oPts_rows]

/-! ## The launch element: the handshakes' rounds; nothing of the kernel's own -/

/-- The ghost state at the launch. -/
def u₀ : UU := (initOf (K (F := F)).hsCells (K (F := F)).hsToks, 1)

/-- Nothing, for each of many, is nothing. -/
theorem none_each {I : Type} (s : Finset I) : (bigSep s fun _ => iprop(emp)) = (iprop(emp) : sProp 𝕄) := bigSep_emp_const s

/-- The ghost state at the launch gives the handshakes their start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_each]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none_each]
  iempintro

/-! ## @main on the TensorCore -/

/-- The TensorCore's buffers are the three arguments and the result. -/
theorem unscopedBufs_eq (d : Dev nD) (B : (b : Ref sig .tc) → Buf (Elt F) ((d.tc : Thread nD τ).loc b)) :
    (unscopedBufs d B : sProp 𝕄)
      = iprop((xLoc d ↦{fullShare} B main_arg0) ∗ (wLoc d ↦{fullShare} B main_arg1) ∗ (gLoc d ↦{fullShare} B main_arg2) ∗ oLoc d ↦{fullShare} B main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- What the call hands out is the spectra, the wavelengths and the result's array at the start. -/
theorem st0_eq (d : Dev nD) :
    (bigSep Finset.univ fun c : Fin ((K (F := F)).nCore 0) => (P m).st 0 d c)
      = iprop((xLoc d ↦{fullShare} m (xLoc d)) ∗ (wLoc d ↦{fullShare} m (wLoc d)) ∗ (oLoc d ↦{fullShare} m (oLoc d))) :=
  (bigSep_congr fun c _ => P_st m d c).trans (cores_arrays m d (m (oLoc d)))
/-- What the call takes back is the spectra and the wavelengths as they were, and the interpolated array. -/
theorem dn0_eq (d : Dev nD) :
    (bigSep Finset.univ fun c : Fin ((K (F := F)).nCore 0) => (P m).dn 0 d c)
      = iprop((xLoc d ↦{fullShare} m (xLoc d)) ∗ (wLoc d ↦{fullShare} m (wLoc d)) ∗ (oLoc d ↦{fullShare} G m d)) :=
  (bigSep_congr fun c _ => P_dn m d c).trans (cores_arrays m d (G m d))

/-- What @main ends with: the arguments at the launch memory's, the result at the interpolated rows. -/
abbrev FIN (d : Dev nD) : sProp 𝕄 :=
  iprop((xLoc d ↦{fullShare} m (xLoc d)) ∗ (wLoc d ↦{fullShare} m (wLoc d)) ∗ (gLoc d ↦{fullShare} m (gLoc d)) ∗ (oLoc d ↦{fullShare} G m d))

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Hg, Ho⟩, Hts, -⟩, -⟩
  iapply ((K (F := F)).wp_run (D (F := F)) 𝒱 (EH := EH) (P := P m) κ d 0) $$ [Hst Hx Hw Ho Hb Hts Hg]
  isplitr; · iexact Hctx
  isplitl [Hst]; · iexact Hst
  isplitl [Hx Hw Ho]
  · rw [st0_eq]
    isplitl [Hx]; · iexact Hx
    isplitl [Hw]; · iexact Hw
    iexact Ho
  iintro ⟨Hst, Hdn⟩
  ihave Hdn' := (Entails.of_eq (dn0_eq m d)) $$ Hdn
  icases Hdn' with ⟨Hx, Hw, Ho⟩
  imodintro
  isplitl [Hst]; · iexact Hst
  isplitr [Hb Hts]
  · isplitl [Hx]; · iexact Hx
    isplitl [Hw]; · iexact Hw
    isplitl [Hg]; · iexact Hg
    iexact Ho
  isplitl [Hb] <;> iassumption

/-- What the final memory holds on device `d`. -/
def fq (d : Dev nD) (s' : Phys nD τ sig (Elt F)) : Prop :=
  s'.mem.mem (oLoc d) = G m d ∧ s'.mem.mem (xLoc d) = m (xLoc d) ∧ s'.mem.mem (wLoc d) = m (wLoc d) ∧ s'.mem.mem (gLoc d) = m (gLoc d)

/-- At the end the memory holds the arguments as they were and the interpolated array. -/
theorem hfin (d : Dev nD) (s' : Phys nD τ sig (Elt F)) : iprop(FIN m d ∗ SI s') ⊢ (⌜fq m d s'⌝ : sProp 𝕄) := by
  iintro ⟨⟨Hx, Hw, Hg, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%hw, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%hg, HSI, -⟩
  ihave H := (SI_pointsTo_agree (st := s') (ℓ := oLoc d) (I := Finset.univ) (q := fullShare) (f := G m d)) $$ [HSI Ho]
  · isplitl [HSI] <;> iassumption
  icases H with %ho
  ipureintro
  exact ⟨funext fun i => ho i (Finset.mem_univ i), funext fun i => hx i (Finset.mem_univ i), funext fun i => hw i (Finset.mem_univ i),
    funext fun i => hg i (Finset.mem_univ i)⟩

/-! ## The program's run -/

/-- The result is the interpolated rows, the arguments are unchanged and every semaphore is at zero. -/
def QC : PUnit × MemSt nD τ sig (Elt F) → Prop := fun r =>
  (∀ c : Dev nD, r.2.mem (oLoc c) = G m c ∧ r.2.mem (xLoc c) = m (xLoc c) ∧ r.2.mem (wLoc c) = m (wLoc c) ∧ r.2.mem (gLoc c) = m (gLoc c))
    ∧ r.2.sem = fun _ => 0

/-- Every execution ends, with the result at the interpolated rows, over any floats. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Interp

end
-- ==== Proof.RefIndex.lean ====
/-
  The reference's lower interpolation index, read at an element: the number of grid points of the row below the wavelength, less
  one, clamped to 0 … 8190.
-/
module

public import Idealize.ShloMosaic.Lib.Pointwise
public import Idealize.ShloMosaic.Lib.IndicatorCount
public import Idealize.ShloMosaic.Lib.ReduceAll
public import Idealize.ShloMosaic.PureOps.Ideal
public import Idealize.ShloMosaic.PureOps.Ideal.Laws
public import proofs.«01_k».proof.Proof.Gen.ReferenceIdeal

@[expose] public section

set_option maxRecDepth 16384

noncomputable section

namespace Cert.Proof.Ref

open Cert.ReferenceIdeal Cert.ReferenceIdeal.Gen
open Idealize.ShloMosaic

/-- The array of the reference's lower indices, for wavelengths `w` and grids `g`. -/
def lowArr (w g : FVec Ideal S2048x8192 .f32) : IVec S2048x8192 32 :=
  minsi (broadcastInDim S2048x8192 ![] bcast_S_S2048x8192 (id (constantI S_ 32 8190#32)))
    (maxsi (broadcastInDim S2048x8192 ![] bcast_S_S2048x8192 (id (constantI S_ 32 0#32)))
      (subi (Host.reduce IntOp.addi (extui 32 (cmpf .olt
            (broadcastInDim S2048x8192x8192 ![0, 1, 2] bcast_S2048x1x8192_S2048x8192x8192_0_1_2 (broadcastInDim S2048x1x8192 ![0, 2] bcast_S2048x8192_S2048x1x8192_0_2 g))
            (broadcastInDim S2048x8192x8192 ![0, 1, 2] bcast_S2048x8192x1_S2048x8192x8192_0_1_2 (broadcastInDim S2048x8192x1 ![0, 1] bcast_S2048x8192_S2048x8192x1_0_1 w))) natLt_1_32)
          (constantI S_ 32 0#32) reducesTo_S2048x8192x8192_S2048x8192_d2 h_S_)
        (broadcastInDim S2048x8192 ![] bcast_S_S2048x8192 (constantI S_ 32 1#32))))

/-- The reference's lower index at an element is the count of the row's grid points below the wavelength, less one, clamped. -/
theorem lowArr_apply (w g : FVec Ideal S2048x8192 .f32) (i : S2048x8192.Idx) : lowArr w g i
    = IntOp.minsi 8190#32 (IntOp.maxsi 0#32
        (BitVec.ofNat 32 ((Finset.univ.filter fun k : Fin 8192 => g (ix2 (i 0) k) < w i).card) - 1#32)) := by
  have e : lowArr w g i = IntOp.minsi 8190#32 (IntOp.maxsi 0#32 (IntOp.subi
      (Finset.fold IntOp.addi 0#32 (fun k : Fin 8192 => (BitVec.ofBool (decide (g (ix2 (i 0) k) < w i))).setWidth 32) Finset.univ) 1#32)) := by
    pointwise [lowArr]
    rfl
  rw [e, IndicatorCount.fold_addi_setWidth_eq_card]
  have ef : (Finset.univ.filter fun k : Fin 8192 => BitVec.ofBool (decide (g (ix2 (i 0) k) < w i)) = 1#1)
      = Finset.univ.filter fun k : Fin 8192 => g (ix2 (i 0) k) < w i := by
    ext k
    simp only [Finset.mem_filter, Finset.mem_univ, true_and]
    by_cases h : g (ix2 (i 0) k) < w i <;> simp [h]
  rw [ef]
  rfl

/-! ## The lookup -/

/-- The lookup of an array of 8192 columns: the array at the row of the element and the column named there, read signed and
    kept within the array, -/
theorem gather_wide (x : S2048x8192.Idx → EReal) (v : IVec S2048x8192x1 32) (i : S2048x8192.Idx) :
    Host.gather gather_S2048x8192_S2048x8192x1_S2048x8192_n_1_0_0_1_2_11 x v i
      = x (ix2 (i 0) ⟨min (v (ix3 (i 0) (i 1) 0)).toInt.toNat 8191, by omega⟩) := by
  unfold Host.gather
  congr 1
  funext a
  refine Fin.ext ?_
  show GatherDims.start _ i v a + GatherDims.batchCoord _ i a + GatherDims.offCoord _ i a = _
  have hk : a ∉ gather_S2048x8192_S2048x8192x1_S2048x8192_n_1_0_0_1_2_11.sKept := by
    rw [GatherDims.mem_sKept]
    rintro ⟨h₁, h₂⟩
    match a with
    | 0 => exact h₂ (List.mem_singleton.2 rfl)
    | 1 => exact h₁ (List.mem_singleton.2 rfl)
  rw [GatherDims.offCoord_eq_zero _ _ _ hk, Nat.add_zero]
  match a with
  | 0 =>
    rw [GatherDims.start_batching _ _ _ _ (List.mem_singleton.2 rfl), Nat.zero_add]
    unfold GatherDims.batchCoord
    exact (dif_pos (List.mem_singleton.2 rfl)).trans rfl
  | 1 =>
    rw [GatherDims.batchCoord_eq_zero _ _ _ (fun h => absurd (List.mem_singleton.1 h) (by decide)), Nat.add_zero]
    unfold GatherDims.start
    refine (dif_pos (List.mem_singleton.2 rfl)).trans ?_
    show min (v _).toInt.toNat (8192 - 1) = min (v _).toInt.toNat 8191
    congr 4
    funext b
    refine Fin.ext ?_
    match b with
    | 0 => rfl
    | 1 => rfl
    | 2 => rfl

/-- and of an array of 8191 columns. -/
theorem gather_narrow (x : S2048x8191.Idx → EReal) (v : IVec S2048x8192x1 32) (i : S2048x8192.Idx) :
    Host.gather gather_S2048x8191_S2048x8192x1_S2048x8192_n_1_0_0_1_2_11 x v i
      = x (ix2 (i 0) ⟨min (v (ix3 (i 0) (i 1) 0)).toInt.toNat 8190, by omega⟩) := by
  unfold Host.gather
  congr 1
  funext a
  refine Fin.ext ?_
  show GatherDims.start _ i v a + GatherDims.batchCoord _ i a + GatherDims.offCoord _ i a = _
  have hk : a ∉ gather_S2048x8191_S2048x8192x1_S2048x8192_n_1_0_0_1_2_11.sKept := by
    rw [GatherDims.mem_sKept]
    rintro ⟨h₁, h₂⟩
    match a with
    | 0 => exact h₂ (List.mem_singleton.2 rfl)
    | 1 => exact h₁ (List.mem_singleton.2 rfl)
  rw [GatherDims.offCoord_eq_zero _ _ _ hk, Nat.add_zero]
  match a with
  | 0 =>
    rw [GatherDims.start_batching _ _ _ _ (List.mem_singleton.2 rfl), Nat.zero_add]
    unfold GatherDims.batchCoord
    exact (dif_pos (List.mem_singleton.2 rfl)).trans rfl
  | 1 =>
    rw [GatherDims.batchCoord_eq_zero _ _ _ (fun h => absurd (List.mem_singleton.1 h) (by decide)), Nat.add_zero]
    unfold GatherDims.start
    refine (dif_pos (List.mem_singleton.2 rfl)).trans ?_
    show min (v _).toInt.toNat (8191 - 1) = min (v _).toInt.toNat 8190
    congr 4
    funext b
    refine Fin.ext ?_
    match b with
    | 0 => rfl
    | 1 => rfl
    | 2 => rfl

/-- The column indices of a lookup among `K` columns: a negative index counts from the end. -/
def wrapped (K : BitVec 32) (v : IVec S2048x8192 32) : IVec S2048x8192x1 32 :=
  shapeCast _ (select (cmpi .slt v (broadcastInDim S2048x8192 ![] bcast_S_S2048x8192 (constantI S_ 32 0#32)))
    (addi v (broadcastInDim S2048x8192 ![] bcast_S_S2048x8192 (constantI S_ 32 K))) v) shapeCasts_S2048x8192_S2048x8192x1

/-- An index that is not negative is kept. -/
theorem wrapped_apply (K : BitVec 32) (v : IVec S2048x8192 32) (i : S2048x8192x1.Idx) (h : 0 ≤ (v (ix2 (i 0) (i 1))).toInt) :
    wrapped K v i = v (ix2 (i 0) (i 1)) := by
  have e : wrapped K v i = Scalar.select (IntOp.cmpi .slt (v (ix2 (i 0) (i 1))) 0#32) (IntOp.addi (v (ix2 (i 0) (i 1))) K)
      (v (ix2 (i 0) (i 1))) := by
    pointwise [wrapped]
  rw [e]
  show (if BitVec.ofBool ((v (ix2 (i 0) (i 1))).slt 0#32) = 1#1 then _ else _) = _
  rw [if_neg]
  rw [BitVec.slt, decide_eq_false (by rw [show (0#32 : BitVec 32).toInt = 0 by decide]; omega)]
  decide

/-- Whether a column index is within 0 … `B`. -/
def within (B : BitVec 32) (v : IVec S2048x8192x1 32) : IVec S2048x8192 1 :=
  Host.reduce IntOp.andi (andi (cmpi .sge v (broadcastInDim S2048x8192x1 ![] bcast_S_S2048x8192x1 (constantI S_ 32 0#32)))
      (cmpi .sle v (broadcastInDim S2048x8192x1 ![0, 1, 2] bcast_S1x1x1_S2048x8192x1_0_1_2
        (broadcastInDim S1x1x1 ![2] bcast_S1_S1x1x1_2 (constantI S1 32 B)))))
    (constantI S_ 1 1#1) reducesTo_S2048x8192x1_S2048x8192_d2 h_S_

/-- Indices all within the bounds pass the test. -/
theorem within_apply (B : BitVec 32) (v : IVec S2048x8192x1 32) (i : S2048x8192.Idx)
    (h : ∀ k, 0 ≤ (v k).toInt ∧ (v k).toInt ≤ B.toInt) : within B v i = 1#1 := by
  refine Host.reduce_andi_one _ _ _ _ _ rfl fun k => ?_
  show IntOp.andi (BitVec.ofBool ((0#32 : BitVec 32).sle (v k))) (BitVec.ofBool ((v k).sle B)) = 1#1
  have h0 : (0#32 : BitVec 32).sle (v k) = true := by
    rw [BitVec.sle, decide_eq_true_eq, show (0#32 : BitVec 32).toInt = 0 by decide]; exact (h k).1
  have h1 : (v k).sle B = true := by
    rw [BitVec.sle, decide_eq_true_eq]; exact (h k).2
  rw [h0, h1]
  rfl

/-- An index is the pair of its coordinates. -/
theorem pair_eq (i : S2048x8192.Idx) : (ix2 (i 0) (i 1) : S2048x8192.Idx) = i := by
  funext a
  match a with
  | 0 => rfl
  | 1 => rfl

/-- A choice whose test is passed at an index is its first array there. -/
theorem choice_of_pass {s : Shape} {α : Type} (c : IVec s 1) (a b : s.Idx → α) (i : s.Idx) (h : c i = 1#1) : select c a b i = a i := by
  show Scalar.select (c i) (a i) (b i) = a i
  rw [h]
  rfl

/-- The lookup of the reference in an array of 8192 columns at the columns `v`, -/
def takeWide (x : FVec Ideal S2048x8192 .f32) (v : IVec S2048x8192 32) : FVec Ideal S2048x8192 .f32 :=
  select (within 8191#32 (wrapped 8192#32 v))
    (Host.gather gather_S2048x8192_S2048x8192x1_S2048x8192_n_1_0_0_1_2_11 x (wrapped 8192#32 v))
    (broadcastInDim S2048x8192 ![] bcast_S_S2048x8192 (constant S_ .f32 0x7FC00000#32))

/-- and in an array of 8191 columns. -/
def takeNarrow (x : FVec Ideal S2048x8191 .f32) (v : IVec S2048x8192 32) : FVec Ideal S2048x8192 .f32 :=
  select (within 8190#32 (wrapped 8191#32 v))
    (Host.gather gather_S2048x8191_S2048x8192x1_S2048x8192_n_1_0_0_1_2_11 x (wrapped 8191#32 v))
    (broadcastInDim S2048x8192 ![] bcast_S_S2048x8192 (constant S_ .f32 0x7FC00000#32))

section

variable (v : IVec S2048x8192 32) (hv : ∀ i, 0 ≤ (v i).toInt ∧ (v i).toInt ≤ 8190)
include hv

/-- At columns within 0 … 8190 the lookup is the array's element of the row at the column. -/
theorem takeWide_apply (x : FVec Ideal S2048x8192 .f32) (i : S2048x8192.Idx) (n : ℕ) (hn : (v i).toInt = n) (h : n < 8192) :
    takeWide x v i = x (ix2 (i 0) ⟨n, h⟩) := by
  have hw : ∀ k, wrapped 8192#32 v k = v (ix2 (k 0) (k 1)) := fun k => wrapped_apply _ _ _ (hv _).1
  have hi : within 8191#32 (wrapped 8192#32 v) i = 1#1 := within_apply _ _ _ fun k => by
    rw [hw, show (8191#32 : BitVec 32).toInt = 8191 by decide]
    have := hv (ix2 (k 0) (k 1)); omega
  refine (choice_of_pass _ _ _ _ hi).trans ?_
  rw [gather_wide]
  have e : (v (ix2 (i 0) (i 1))).toInt = n := (congrArg (fun j => (v j).toInt) (pair_eq i)).trans hn
  refine congrArg (fun k : Fin 8192 => x (ix2 (i 0) k)) (Fin.ext ?_)
  show min (wrapped 8192#32 v (ix3 (i 0) (i 1) 0)).toInt.toNat 8191 = n
  have e' : (wrapped 8192#32 v (ix3 (i 0) (i 1) 0)).toInt = n := (congrArg BitVec.toInt (hw _)).trans e
  rw [e']; omega

/-- Taking along the second axis from an array of 8191 columns reads the column that the index names. -/
theorem takeNarrow_apply (x : FVec Ideal S2048x8191 .f32) (i : S2048x8192.Idx) (n : ℕ) (hn : (v i).toInt = n) (h : n < 8191) :
    takeNarrow x v i = x (ix2 (i 0) ⟨n, h⟩) := by
  have hw : ∀ k, wrapped 8191#32 v k = v (ix2 (k 0) (k 1)) := fun k => wrapped_apply _ _ _ (hv _).1
  have hi : within 8190#32 (wrapped 8191#32 v) i = 1#1 := within_apply _ _ _ fun k => by
    rw [hw, show (8190#32 : BitVec 32).toInt = 8190 by decide]
    have := hv (ix2 (k 0) (k 1)); omega
  refine (choice_of_pass _ _ _ _ hi).trans ?_
  rw [gather_narrow]
  have e : (v (ix2 (i 0) (i 1))).toInt = n := (congrArg (fun j => (v j).toInt) (pair_eq i)).trans hn
  refine congrArg (fun k : Fin 8191 => x (ix2 (i 0) k)) (Fin.ext ?_)
  show min (wrapped 8191#32 v (ix3 (i 0) (i 1) 0)).toInt.toNat 8190 = n
  have e' : (wrapped 8191#32 v (ix3 (i 0) (i 1) 0)).toInt = n := (congrArg BitVec.toInt (hw _)).trans e
  rw [e']; omega

end

end Cert.Proof.Ref

end
-- ==== Proof.Maths.lean ====
/-
  The arithmetic of one interpolated value over the extended reals: the kernel's value at a wavelength `w` of a spectrum of real
  numbers is the interpolation formula over the uniform grid of spacing 1/8192.
-/
module

public import Idealize.ShloMosaic.PureOps.Ideal
public import Idealize.ShloMosaic.PureOps.Ideal.Laws
public import proofs.«01_k».proof.Proof.Inner

@[expose] public section

set_option maxRecDepth 16384

noncomputable section

namespace Cert.Proof.Interp

open Cert.KernelIdeal Cert.KernelIdeal.Gen
open Idealize.ShloMosaic

/-! ## The constants -/

/-- The scale of the kernel is 8192, -/
theorem const_scale : Ideal.ofBits .f32 0x46000000#32 = ((8192 : ℝ) : EReal) := by
  simp [Ideal.ofBits, Ideal.ieee, -EReal.coe_mul]; norm_num

/-- its last grid position is 8191, -/
theorem const_last : Ideal.ofBits .f32 0x45FFF800#32 = ((8191 : ℝ) : EReal) := by
  simp [Ideal.ofBits, Ideal.ieee, -EReal.coe_mul]; norm_num

/-- the spacing of the grid is 1/8192, -/
theorem const_spacing : Ideal.ofBits .f32 0x39000000#32 = ((1 / 8192 : ℝ) : EReal) := by
  simp [Ideal.ofBits, Ideal.ieee, -EReal.coe_mul]; norm_num

/-- and the bound of a finite value is infinity. -/
theorem const_inf : Ideal.ofBits .f32 0x7F800000#32 = ⊤ := by
  simp [Ideal.ofBits, Ideal.ieee]

/-! ## The index -/

/-- A 32-bit integer as an extended real. -/
abbrev asReal (b : BitVec 32) : EReal := ((b.toInt : ℝ) : EReal)

/-- The lower interpolation index at grid position `t`: the number of grid positions below `t`, less one, within 0 … 8190. -/
def lowNat (t : ℝ) : ℕ := min 8190 (⌈t⌉₊ - 1)

/-- The number of the 8192 grid positions below `t`, for `t` at most 8191. -/
theorem count_below (t : ℝ) (h : t ≤ 8191) : (Finset.univ.filter fun k : Fin 8192 => ((k.val : ℕ) : ℝ) < t).card = ⌈t⌉₊ := by
  have hc : ⌈t⌉₊ ≤ 8191 := Nat.ceil_le.2 (by exact_mod_cast h)
  have e : (Finset.univ.filter fun k : Fin 8192 => ((k.val : ℕ) : ℝ) < t) = Finset.univ.filter fun k : Fin 8192 => k.val < ⌈t⌉₊ := by
    ext k
    simp only [Finset.mem_filter, Finset.mem_univ, true_and, Nat.lt_ceil]
  rw [e, ← Finset.card_map Fin.valEmbedding]
  have e' : (Finset.univ.filter fun k : Fin 8192 => k.val < ⌈t⌉₊).map Fin.valEmbedding = Finset.range ⌈t⌉₊ := by
    ext n
    simp only [Finset.mem_map, Finset.mem_filter, Finset.mem_univ, true_and, Fin.valEmbedding_apply, Finset.mem_range]
    exact ⟨fun ⟨k, hk, e⟩ => e ▸ hk, fun hn => ⟨⟨n, by omega⟩, hn, rfl⟩⟩
  rw [e', Finset.card_range]

/-- The integer part of a real of 0 … 8191, as a 32-bit integer. -/
theorem fptosi_real (t : ℝ) (h0 : 0 ≤ t) (h1 : t ≤ 8191) : Ideal.fptosi 32 (t : EReal) = BitVec.ofNat 32 ⌊t⌋₊ := by
  have hf : ⌊t⌋₊ ≤ 8191 := Nat.floor_le_of_le (by exact_mod_cast h1)
  have hi : ⌊t⌋ = ((⌊t⌋₊ : ℕ) : ℤ) := (Int.natCast_floor_eq_floor h0).symm
  have e : Ideal.toIntClamped (-((2 ^ (32 - 1) : ℕ) : ℤ)) (((2 ^ (32 - 1) : ℕ) : ℤ) - 1) (t : EReal) = ((⌊t⌋₊ : ℕ) : ℤ) := by
    show max _ (min _ (if 0 ≤ t then ⌊t⌋ else ⌈t⌉)) = _
    rw [if_pos h0, hi]
    norm_num
    omega
  show BitVec.ofInt 32 (Ideal.toIntClamped _ _ _) = _
  rw [e]
  simp

/-- A small count, as a word, is itself as a signed number. -/
theorem toInt_small (n : ℕ) (h : n ≤ 8192) : (BitVec.ofNat 32 n).toInt = n := by
  rw [BitVec.toInt_eq_toNat_cond, BitVec.toNat_ofNat]
  split_ifs <;> omega

/-- A small count less one, as a word, is that as a signed number, -1 included. -/
theorem toInt_pred (n : ℕ) (h : n ≤ 8192) : (BitVec.ofNat 32 n - 1#32).toInt = (n : ℤ) - 1 := by
  rw [BitVec.toInt_eq_toNat_cond, BitVec.toNat_sub, BitVec.toNat_ofNat]
  simp only [BitVec.toNat_ofNat]
  split_ifs <;> omega

/-- The kernel's lower index at a wavelength `w` of grid position 0 … 8191. -/
theorem lowIdx_real (w : ℝ) (h0 : 0 ≤ w * 8192) (h1 : w * 8192 ≤ 8191) :
    (lowIdx (F := Ideal) (w : EReal)).toNat = lowNat (w * 8192) := by
  set t := w * 8192 with ht
  have hf : ⌊t⌋₊ ≤ 8191 := Nat.floor_le_of_le (by exact_mod_cast h1)
  have e : lowIdx (F := Ideal) (w : EReal) = IntOp.minsi 8190#32 (IntOp.maxsi 0#32
      (Scalar.select (Ideal.cmp .ogt ((w : EReal) * Ideal.ofBits .f32 0x46000000#32)
          (asReal (Ideal.fptosi 32 ((w : EReal) * Ideal.ofBits .f32 0x46000000#32))))
        (Ideal.fptosi 32 ((w : EReal) * Ideal.ofBits .f32 0x46000000#32))
        (Ideal.fptosi 32 ((w : EReal) * Ideal.ofBits .f32 0x46000000#32) - 1#32))) := rfl
  rw [e, const_scale, ← EReal.coe_mul, ← ht, fptosi_real t h0 h1]
  have es : asReal (BitVec.ofNat 32 ⌊t⌋₊) = (((⌊t⌋₊ : ℕ) : ℝ) : EReal) := by
    show (((BitVec.ofNat 32 ⌊t⌋₊).toInt : ℝ) : EReal) = _
    rw [toInt_small _ (by omega)]; simp
  rw [es]
  have hz : (Scalar.select (Ideal.cmp .ogt (t : EReal) (((⌊t⌋₊ : ℕ) : ℝ) : EReal)) (BitVec.ofNat 32 ⌊t⌋₊)
      (BitVec.ofNat 32 ⌊t⌋₊ - 1#32)).toInt = (⌈t⌉₊ : ℤ) - 1 := by
    have hle : ((⌊t⌋₊ : ℕ) : ℝ) ≤ t := Nat.floor_le h0
    show (if BitVec.ofBool (decide ((((⌊t⌋₊ : ℕ) : ℝ) : EReal) < (t : EReal))) = 1#1 then _ else _ : BitVec 32).toInt = _
    by_cases hlt : ((⌊t⌋₊ : ℕ) : ℝ) < t
    · have hce : ⌈t⌉₊ = ⌊t⌋₊ + 1 := by
        apply le_antisymm (Nat.ceil_le_floor_add_one t)
        exact Nat.lt_ceil.2 hlt
      rw [if_pos (by rw [decide_eq_true (EReal.coe_lt_coe_iff.2 hlt)]; rfl), toInt_small _ (by omega), hce]
      push_cast; ring
    · have heq : t = ((⌊t⌋₊ : ℕ) : ℝ) := le_antisymm (not_lt.1 hlt) hle
      have hce : ⌈t⌉₊ = ⌊t⌋₊ := by
        conv_lhs => rw [heq]
        exact Nat.ceil_natCast _
      rw [if_neg (by rw [decide_eq_false (fun h => hlt (EReal.coe_lt_coe_iff.1 h))]; decide), toInt_pred _ (by omega), hce]
  have hc := clamp_toInt (Scalar.select (Ideal.cmp .ogt (t : EReal) (((⌊t⌋₊ : ℕ) : ℝ) : EReal)) (BitVec.ofNat 32 ⌊t⌋₊)
      (BitVec.ofNat 32 ⌊t⌋₊ - 1#32))
  have hl := clamp_le (Scalar.select (Ideal.cmp .ogt (t : EReal) (((⌊t⌋₊ : ℕ) : ℝ) : EReal)) (BitVec.ofNat 32 ⌊t⌋₊)
      (BitVec.ofNat 32 ⌊t⌋₊ - 1#32))
  rw [hz] at hc
  unfold lowNat
  rw [BitVec.toInt_eq_toNat_cond] at hc
  generalize (IntOp.minsi 8190#32 (IntOp.maxsi 0#32 (Scalar.select _ _ _)) : BitVec 32).toNat = z at hc hl ⊢
  rw [if_pos (by omega)] at hc
  omega

/-! ## The value -/

/-- The kernel's test of a wavelength, on the grid positions, and the reference's, on the wavelengths, agree below the grid -/
theorem below_iff (w : EReal) : w * ((8192 : ℝ) : EReal) < 0 ↔ w < 0 := by
  induction w with
  | bot => rw [EReal.bot_mul_coe_of_pos (by norm_num)]
  | top => rw [EReal.top_mul_coe_of_pos (by norm_num)]
  | coe r =>
    rw [← EReal.coe_mul, ← EReal.coe_zero, EReal.coe_lt_coe_iff, EReal.coe_lt_coe_iff]
    constructor <;> intro h <;> linarith

/-- and above it. -/
theorem above_iff (w : EReal) : ((8191 : ℝ) : EReal) < w * ((8192 : ℝ) : EReal) ↔ ((8191 / 8192 : ℝ) : EReal) < w := by
  induction w with
  | bot => rw [EReal.bot_mul_coe_of_pos (by norm_num)]; simp
  | top => rw [EReal.top_mul_coe_of_pos (by norm_num)]; simp
  | coe r =>
    rw [← EReal.coe_mul, EReal.coe_lt_coe_iff, EReal.coe_lt_coe_iff]
    constructor <;> intro h <;> linarith

/-- The kernel's value at the wavelength `w` of the spectrum `x`, its operations spelt out. -/
theorem interp_eq (x : S8192.Idx → EReal) (w : EReal) : interp (F := Ideal) x w
    = if w < 0 ∨ ((8191 / 8192 : ℝ) : EReal) < w then 0
      else x (entry (lowIdx (F := Ideal) w)) + (w * ((8192 : ℝ) : EReal) - asReal (lowIdx (F := Ideal) w))
        * (x (entry (lowIdx (F := Ideal) w + 1#32)) - x (entry (lowIdx (F := Ideal) w))) := by
  have e : interp (F := Ideal) x w = Scalar.select (IntOp.ori (Ideal.cmp .olt (w * Ideal.ofBits .f32 0x46000000#32) (Ideal.ofBits .f32 0x00000000#32))
        (Ideal.cmp .ogt (w * Ideal.ofBits .f32 0x46000000#32) (Ideal.ofBits .f32 0x45FFF800#32)))
      (Ideal.ofBits .f32 0x00000000#32)
      (x (entry (lowIdx (F := Ideal) w)) + (w * Ideal.ofBits .f32 0x46000000#32 - asReal (lowIdx (F := Ideal) w))
        * (x (entry (lowIdx (F := Ideal) w + 1#32)) - x (entry (lowIdx (F := Ideal) w)))) := rfl
  rw [e, const_scale, const_last, Ideal.ofBits_zero_f32]
  show (if IntOp.ori (BitVec.ofBool (decide (w * ((8192 : ℝ) : EReal) < 0))) (BitVec.ofBool (decide (((8191 : ℝ) : EReal) < w * ((8192 : ℝ) : EReal)))) = 1#1
    then _ else _) = _
  simp only [below_iff, above_iff]
  by_cases h1 : w < 0 <;> by_cases h2 : ((8191 / 8192 : ℝ) : EReal) < w <;> simp [h1, h2, IntOp.ori]

/-- The interpolation formula on reals: from the lower grid point `n`, the position within the spacing times the rise is the
    distance in wavelength times the slope. -/
theorem formula (y₀ y₁ w n : ℝ) : (y₀ : EReal) + ((w * 8192 - n : ℝ) : EReal) * ((y₁ : EReal) - (y₀ : EReal))
    = (y₀ : EReal) + ((w : EReal) - ((n * (1 / 8192) : ℝ) : EReal))
        * Ideal.div ((y₀ : EReal) - (y₁ : EReal)) (((n * (1 / 8192) : ℝ) : EReal) - (((n + 1) * (1 / 8192) : ℝ) : EReal)) := by
  have hd : n * (1 / 8192) - (n + 1) * (1 / 8192) = -(1 / 8192 : ℝ) := by ring
  rw [← EReal.coe_sub, ← EReal.coe_sub, ← EReal.coe_sub, ← EReal.coe_sub, hd, Ideal.div_coe (by norm_num)]
  simp only [← EReal.coe_mul, ← EReal.coe_add]
  congr 1
  ring

/-- The kernel's value at the wavelength `w` of a spectrum `y` of reals: zero outside the grid, and inside it the interpolation
    formula at the lower grid point, the grid points being `k / 8192`. -/
theorem interp_real (x : S8192.Idx → EReal) (y : ℕ → ℝ) (hx : ∀ j : S8192.Idx, x j = (y (j 0).val : EReal)) (w : EReal) :
    interp (F := Ideal) x w
    = if w < 0 ∨ ((8191 / 8192 : ℝ) : EReal) < w then 0
      else (y (lowNat (w.toReal * 8192)) : EReal)
        + (w - (((lowNat (w.toReal * 8192) : ℕ) * (1 / 8192) : ℝ) : EReal))
          * Ideal.div ((y (lowNat (w.toReal * 8192)) : EReal) - (y (lowNat (w.toReal * 8192) + 1) : EReal))
              ((((lowNat (w.toReal * 8192) : ℕ) * (1 / 8192) : ℝ) : EReal)
                - (((((lowNat (w.toReal * 8192) : ℕ) : ℝ) + 1) * (1 / 8192) : ℝ) : EReal)) := by
  rw [interp_eq]
  by_cases hm : w < 0 ∨ ((8191 / 8192 : ℝ) : EReal) < w
  · rw [if_pos hm, if_pos hm]
  · rw [if_neg hm, if_neg hm]
    push Not at hm
    obtain ⟨hw0, hw1⟩ := hm
    induction w with
    | bot => exact absurd hw0 (by simp)
    | top => exact absurd hw1 (by simp)
    | coe r =>
      rw [← EReal.coe_zero, EReal.coe_le_coe_iff] at hw0
      rw [EReal.coe_le_coe_iff] at hw1
      have h0 : 0 ≤ r * 8192 := by linarith
      have h1 : r * 8192 ≤ 8191 := by linarith
      have hl := lowIdx_real r h0 h1
      have hle : lowNat (r * 8192) ≤ 8190 := Nat.min_le_left _ _
      rw [EReal.toReal_coe]
      have e0 : x (entry (lowIdx (F := Ideal) (r : EReal))) = (y (lowNat (r * 8192)) : EReal) := by
        rw [hx]
        show (y ((lowIdx (F := Ideal) (r : EReal)).toNat % 8192) : EReal) = _
        rw [hl, Nat.mod_eq_of_lt (by omega)]
      have e1 : x (entry (lowIdx (F := Ideal) (r : EReal) + 1#32)) = (y (lowNat (r * 8192) + 1) : EReal) := by
        rw [hx]
        show (y ((lowIdx (F := Ideal) (r : EReal) + 1#32).toNat % 8192) : EReal) = _
        rw [lowIdx_succ, hl, Nat.mod_eq_of_lt (by omega)]
      have e2 : asReal (lowIdx (F := Ideal) (r : EReal)) = (((lowNat (r * 8192) : ℕ) : ℝ) : EReal) := by
        show (((lowIdx (F := Ideal) (r : EReal)).toInt : ℝ) : EReal) = _
        rw [BitVec.toInt_eq_toNat_cond, if_pos (by omega), hl]; simp
      rw [e0, e1, e2, ← EReal.coe_mul, ← EReal.coe_sub]
      exact formula _ _ _ _

end Cert.Proof.Interp

end
-- ==== Proof.RefValue.lean ====
/-
  The reference's result, read at an element, and its agreement with the kernel's result on spectra of real numbers over the
  uniform grid.
-/
module

public import proofs.«01_k».proof.Proof.RefIndex
public import proofs.«01_k».proof.Proof.Maths
public import proofs.«01_k».proof.Proof.Launch
public import proofs.«01_k».proof.Proof.Gen.ReferenceIdeal.Run

@[expose] public section

set_option maxRecDepth 16384

noncomputable section

namespace Cert.Proof.Ref

open Cert.ReferenceIdeal Cert.ReferenceIdeal.Gen
open Idealize.ShloMosaic

/-- The reference's slopes between neighbouring grid points. -/
def slopes (y g : FVec Ideal S2048x8192 .f32) : FVec Ideal S2048x8191 .f32 :=
  Host.divf (subf (extractStridedSlice S2048x8191 ![0, 0] y slices_S2048x8192_S2048x8191_0_0)
      (extractStridedSlice S2048x8191 ![0, 1] y slices_S2048x8192_S2048x8191_0_1))
    (subf (extractStridedSlice S2048x8191 ![0, 0] g slices_S2048x8192_S2048x8191_0_0)
      (extractStridedSlice S2048x8191 ![0, 1] g slices_S2048x8192_S2048x8191_0_1))

/-- The slope at a row and column. -/
theorem slopes_apply (y g : FVec Ideal S2048x8192 .f32) (n : Fin 2048) (k : Fin 8191) : slopes y g (ix2 n k)
    = Ideal.div (y (ix2 n ⟨k.val, by omega⟩) - y (ix2 n ⟨k.val + 1, by omega⟩))
        (g (ix2 n ⟨k.val, by omega⟩) - g (ix2 n ⟨k.val + 1, by omega⟩)) := by
  have e : ∀ h, (⟨1 + k.val, h⟩ : Fin 8192) = ⟨k.val + 1, by omega⟩ := fun h => Fin.ext (Nat.add_comm _ _)
  pointwise [slopes]
  rw [e]

/-- Whether the reference takes a wavelength to lie off the grid. -/
def off (w g : FVec Ideal S2048x8192 .f32) : IVec S2048x8192 1 :=
  ori (cmpf .olt w (broadcastInDim S2048x8192 ![0, 1] bcast_S2048x1_S2048x8192_0_1 (extractStridedSlice S2048x1 ![0, 0] g slices_S2048x8192_S2048x1_0_0)))
    (cmpf .ogt w (broadcastInDim S2048x8192 ![0, 1] bcast_S2048x1_S2048x8192_0_1 (extractStridedSlice S2048x1 ![0, 8191] g slices_S2048x8192_S2048x1_0_8191)))

/-- The mask at an element: the wavelength is below the first grid point or above the last. -/
theorem off_apply (w g : FVec Ideal S2048x8192 .f32) (i : S2048x8192.Idx) : off w g i
    = IntOp.ori (BitVec.ofBool (decide (w i < g (ix2 (i 0) 0)))) (BitVec.ofBool (decide (g (ix2 (i 0) 8191) < w i))) := by
  pointwise [off]

/-- The reference's result on spectra `y`, wavelengths `w` and grids `g`. -/
def refOut (y w g : FVec Ideal S2048x8192 .f32) : FVec Ideal S2048x8192 .f32 :=
  select (off w g) (broadcastInDim S2048x8192 ![] bcast_S_S2048x8192 (id (constant S_ .f32 0x00000000#32)))
    (addf (takeWide y (lowArr w g)) (mulf (subf w (takeWide g (lowArr w g))) (takeNarrow (slopes y g) (lowArr w g))))

/-- The run's result is it. -/
theorem res_eq (m : (ℓ : Loc nD τ sig) → Buf (Elt Ideal) ℓ) (c : Dev nD) : Value.res_out0 m c
    = refOut (m ((c.tc : Thread nD τ).loc main_arg0)) (m ((c.tc : Thread nD τ).loc main_arg1)) (m ((c.tc : Thread nD τ).loc main_arg2)) := rfl

/-- The clamped index as an integer. -/
theorem lowArr_toInt (w g : FVec Ideal S2048x8192 .f32) (i : S2048x8192.Idx) : (lowArr w g i).toInt
    = ((min 8190 ((Finset.univ.filter fun k : Fin 8192 => g (ix2 (i 0) k) < w i).card - 1) : ℕ) : ℤ) := by
  have hc : (Finset.univ.filter fun k : Fin 8192 => g (ix2 (i 0) k) < w i).card ≤ 8192 :=
    (Finset.card_le_univ _).trans (by simp)
  rw [lowArr_apply, Interp.clamp_toInt, Interp.toInt_pred _ hc]
  omega

/-- The choice by a test of two bounds. -/
theorem choice_off (a b l h : EReal) (x : EReal) :
    Scalar.select (IntOp.ori (BitVec.ofBool (decide (x < l))) (BitVec.ofBool (decide (h < x)))) a b = if x < l ∨ h < x then a else b := by
  show (if IntOp.ori _ _ = 1#1 then _ else _) = _
  by_cases h1 : x < l <;> by_cases h2 : h < x <;> simp [h1, h2, IntOp.ori]

/-- An array filled with one value holds it at every element. -/
theorem fill_apply (b : BitVec 32) (i : S2048x8192.Idx) :
    broadcastInDim S2048x8192 ![] bcast_S_S2048x8192 (id (constant (F := Ideal) S_ .f32 b)) i = Ideal.ofBits .f32 b := rfl

/-- A value plus a distance times a slope, element by element. -/
theorem line_apply (a b c w : FVec Ideal S2048x8192 .f32) (i : S2048x8192.Idx) : addf a (mulf (subf w b) c) i = a i + (w i - b i) * c i := rfl

/-- A choice, element by element, -/
theorem choice_apply (o : IVec S2048x8192 1) (a b : FVec Ideal S2048x8192 .f32) (i : S2048x8192.Idx) :
    select o a b i = Scalar.select (o i) (a i) (b i) := rfl

/-- between zero and an array. -/
theorem zero_choice (o : IVec S2048x8192 1) (b : FVec Ideal S2048x8192 .f32) (i : S2048x8192.Idx) :
    select o (broadcastInDim S2048x8192 ![] bcast_S_S2048x8192 (id (constant (F := Ideal) S_ .f32 0x00000000#32))) b i
      = Scalar.select (o i) 0 (b i) := by
  rw [choice_apply, fill_apply, Ideal.ofBits_zero_f32]

/-- The reference's result at an element, from the elements of its parts. -/
theorem refOut_parts (y w g : FVec Ideal S2048x8192 .f32) (i : S2048x8192.Idx) : refOut y w g i = Scalar.select (off w g i) 0
      (takeWide y (lowArr w g) i + (w i - takeWide g (lowArr w g) i) * takeNarrow (slopes y g) (lowArr w g) i) := by
  unfold refOut
  rw [zero_choice, line_apply]

/-- The lower index lies between 0 and 8190. -/
theorem lowArr_bounds (w g : FVec Ideal S2048x8192 .f32) (i : S2048x8192.Idx) :
    0 ≤ (lowArr w g i).toInt ∧ (lowArr w g i).toInt ≤ 8190 := by
  rw [lowArr_toInt]; omega

/-- The reference's result at an element: zero off the grid, and otherwise the value at the lower grid point plus the distance
    from it times the slope there. -/
theorem refOut_apply (y w g : FVec Ideal S2048x8192 .f32) (i : S2048x8192.Idx) (n : ℕ) (hn : n < 8191)
    (h : min 8190 ((Finset.univ.filter fun k : Fin 8192 => g (ix2 (i 0) k) < w i).card - 1) = n) :
    refOut y w g i = if w i < g (ix2 (i 0) 0) ∨ g (ix2 (i 0) 8191) < w i then 0
      else y (ix2 (i 0) ⟨n, by omega⟩) + (w i - g (ix2 (i 0) ⟨n, by omega⟩))
        * Ideal.div (y (ix2 (i 0) ⟨n, by omega⟩) - y (ix2 (i 0) ⟨n + 1, by omega⟩))
            (g (ix2 (i 0) ⟨n, by omega⟩) - g (ix2 (i 0) ⟨n + 1, by omega⟩)) := by
  have hi : (lowArr w g i).toInt = (n : ℤ) := by rw [lowArr_toInt, h]
  have e1 := takeWide_apply _ (lowArr_bounds w g) y i n hi (by omega)
  have e2 := takeWide_apply _ (lowArr_bounds w g) g i n hi (by omega)
  have e3 := (takeNarrow_apply _ (lowArr_bounds w g) (slopes y g) i n hi hn).trans (slopes_apply y g (i 0) ⟨n, hn⟩)
  rw [refOut_parts, e1, e2, e3, off_apply, choice_off]

/-- On the uniform grid and a spectrum of reals, the reference's result at an element is the kernel's interpolated value. -/
theorem refOut_eq_interp (y w g : FVec Ideal S2048x8192 .f32) (i : S2048x8192.Idx)
    (hg : ∀ k : Fin 8192, g (ix2 (i 0) k) = ((((k.val : ℕ) : ℝ) * (1 / 8192) : ℝ) : EReal))
    (r : ℕ → ℝ) (hy : ∀ k : Fin 8192, y (ix2 (i 0) k) = (r k.val : EReal))
    (x : Cert.KernelIdeal.S8192.Idx → EReal) (hx : ∀ j, x j = y (ix2 (i 0) (j 0))) :
    refOut y w g i = Interp.interp (F := Ideal) x (w i) := by
  have hx' : ∀ j : Cert.KernelIdeal.S8192.Idx, x j = (r (j 0).val : EReal) := fun j => (hx j).trans (hy (j 0))
  rw [Interp.interp_real x r hx']
  have g0 : g (ix2 (i 0) 0) = 0 := by rw [hg]; simp
  have g1 : g (ix2 (i 0) 8191) = ((8191 / 8192 : ℝ) : EReal) := by rw [hg]; congr 1; norm_num
  by_cases hm : w i < 0 ∨ ((8191 / 8192 : ℝ) : EReal) < w i
  · rw [if_pos hm, refOut_apply y w g i _ (Nat.lt_succ_of_le (Nat.min_le_left _ _)) rfl, g0, g1, if_pos hm]
  · have hm' := hm
    push Not at hm'
    obtain ⟨hw0, hw1⟩ := hm'
    obtain ⟨t, ht⟩ : ∃ t : ℝ, w i = (t : EReal) := by
      have hb : (w i : EReal) ≠ ⊥ := fun h => by rw [h] at hw0; exact absurd hw0 (by simp)
      have ht : (w i : EReal) ≠ ⊤ := fun h => by rw [h] at hw1; exact absurd hw1 (by simp)
      exact ⟨(w i : EReal).toReal, (EReal.coe_toReal ht hb).symm⟩
    have h1 : t * 8192 ≤ 8191 := by
      rw [ht, EReal.coe_le_coe_iff] at hw1; linarith
    have hcount : (Finset.univ.filter fun k : Fin 8192 => g (ix2 (i 0) k) < w i).card = ⌈t * 8192⌉₊ := by
      rw [← Interp.count_below _ h1]
      congr 1
      ext k
      simp only [Finset.mem_filter, Finset.mem_univ, true_and]
      rw [hg, ht, EReal.coe_lt_coe_iff]
      constructor <;> intro h <;> linarith
    have hle : Interp.lowNat (t * 8192) ≤ 8190 := Nat.min_le_left _ _
    have hr : EReal.toReal (w i) = t := by rw [ht]; rfl
    rw [if_neg hm, hr]
    obtain ⟨L, hL⟩ : ∃ L, L = Interp.lowNat (t * 8192) := ⟨_, rfl⟩
    rw [← hL] at hle ⊢
    have hc : min 8190 ((Finset.univ.filter fun k : Fin 8192 => g (ix2 (i 0) k) < w i).card - 1) = L := by rw [hcount, hL]; rfl
    have g3 : g (ix2 (i 0) ⟨L + 1, by omega⟩) = ((((L : ℕ) : ℝ) + 1) * (1 / 8192) : ℝ) :=
      (hg ⟨L + 1, by omega⟩).trans (by push_cast; rfl)
    refine (refOut_apply y w g i L (by omega) hc).trans ?_
    rw [g0, g1, if_neg hm, g3, hg ⟨L, by omega⟩, hy ⟨L, by omega⟩, hy ⟨L + 1, by omega⟩]

end Cert.Proof.Ref

end
-- ==== Proof.Precondition.lean ====
/-
  What the precondition says of the arguments: the grids are uniform, and the spectra hold real numbers.
-/
module

public import Idealize.ShloMosaic.Lib.Pointwise
public import Idealize.ShloMosaic.Lib.ReduceAll
public import proofs.«01_k».proof.Proof.Maths
public import proofs.«01_k».proof.Proof.Gen.Pre_uniform_finite

@[expose] public section

set_option maxRecDepth 16384

noncomputable section

namespace Cert.Proof.Pre

open Cert.Pre_uniform_finite Cert.Pre_uniform_finite.Gen
open Idealize.ShloMosaic

/-- A scalar has one index. -/
instance : Subsingleton S_.Idx := ⟨fun _ _ => funext fun a => a.elim0⟩

/-- The uniform grid of the precondition. -/
def grid : FVec Ideal S2048x8192 .f32 :=
  broadcastInDim S2048x8192 ![0, 1] Facts.bcast_S1x8192_S2048x8192_0_1 (broadcastInDim S1x8192 ![1] Facts.bcast_S8192_S1x8192_1
    (addf (mulf (sitofp .f32 (iotaInDim S8192 32 0)) (broadcastInDim S8192 ![] Facts.bcast_S_S8192 (constant S_ .f32 0x39000000#32)))
      (broadcastInDim S8192 ![] Facts.bcast_S_S8192 (constant S_ .f32 0x00000000#32))))

/-- Its element in column `k` is `k / 8192`. -/
theorem grid_apply (i : S2048x8192.Idx) : grid i = ((((i 1).val : ℕ) : ℝ) * (1 / 8192) : ℝ) := by
  have e : ∀ b z : BitVec 32, broadcastInDim S2048x8192 ![0, 1] Facts.bcast_S1x8192_S2048x8192_0_1 (broadcastInDim S1x8192 ![1] Facts.bcast_S8192_S1x8192_1
    (addf (mulf (sitofp .f32 (iotaInDim S8192 32 0)) (broadcastInDim S8192 ![] Facts.bcast_S_S8192 (constant (F := Ideal) S_ .f32 b)))
      (broadcastInDim S8192 ![] Facts.bcast_S_S8192 (constant S_ .f32 z)))) i
      = Interp.asReal (BitVec.ofNat 32 (i 1).val) * Ideal.ofBits .f32 b + Ideal.ofBits .f32 z := fun b z => by
    pointwise
    rfl
  have hl : (i 1).val < 8192 := (i 1).isLt
  rw [grid, e, Interp.const_spacing, Ideal.ofBits_zero_f32, add_zero]
  unfold Interp.asReal
  rw [Interp.toInt_small _ (by omega), ← EReal.coe_mul]
  norm_num

/-- The precondition's two tests. -/
theorem tests (x w g : FVec Ideal S2048x8192 .f32) (h : Cert.Pre_uniform_finite.fn (F := Ideal) x w g = fun _ => 1#1) (i : S2048x8192.Idx) :
    cmpf .oeq g grid i = 1#1
      ∧ cmpf .olt (Host.absf x) (broadcastInDim S2048x8192 ![] Facts.bcast_S_S2048x8192 (constant S_ .f32 0x7F800000#32)) i = 1#1 := by
  have h0 : IntOp.andi (Host.reduce IntOp.andi (cmpf .oeq g grid) (constantI S_ 1 1#1) Facts.reducesTo_S2048x8192_S_d0_1 Facts.h_S_ ix0)
      (Host.reduce IntOp.andi (cmpf .olt (Host.absf x) (broadcastInDim S2048x8192 ![] Facts.bcast_S_S2048x8192 (constant S_ .f32 0x7F800000#32)))
        (constantI S_ 1 1#1) Facts.reducesTo_S2048x8192_S_d0_1 Facts.h_S_ ix0) = 1#1 := congrFun h ix0
  obtain ⟨h1, h2⟩ := IntOp.andi_eq_one.1 h0
  exact ⟨Host.reduce_andi_all _ _ _ _ _ h1 i, Host.reduce_andi_all _ _ _ _ _ h2 i⟩

/-- Under the precondition the grid at column `k` is `k / 8192`, -/
theorem grid_of (x w g : FVec Ideal S2048x8192 .f32) (h : Cert.Pre_uniform_finite.fn (F := Ideal) x w g = fun _ => 1#1) (i : S2048x8192.Idx) :
    g i = ((((i 1).val : ℕ) : ℝ) * (1 / 8192) : ℝ) := by
  have e : ∀ q : FVec Ideal S2048x8192 .f32, cmpf .oeq g q i = BitVec.ofBool (decide (g i = q i)) := fun _ => rfl
  have h1 := (tests x w g h i).1
  rw [e, grid_apply] at h1
  by_contra hne
  rw [decide_eq_false hne] at h1
  exact absurd h1 (by decide)

/-- and the spectra hold real numbers. -/
theorem finite_of (x w g : FVec Ideal S2048x8192 .f32) (h : Cert.Pre_uniform_finite.fn (F := Ideal) x w g = fun _ => 1#1) (i : S2048x8192.Idx) :
    x i = (EReal.toReal (x i) : EReal) := by
  have e : ∀ b : BitVec 32, cmpf .olt (Host.absf x) (broadcastInDim S2048x8192 ![] Facts.bcast_S_S2048x8192 (constant S_ .f32 b)) i
      = BitVec.ofBool (decide ((max (x i) (-(x i)) : EReal) < Ideal.ofBits .f32 b)) := fun b => rfl
  have h1 := (tests x w g h i).2
  rw [e, Interp.const_inf] at h1
  have h2 : (max (x i) (-(x i)) : EReal) < ⊤ := by
    by_contra hne
    rw [decide_eq_false hne] at h1
    exact absurd h1 (by decide)
  obtain ⟨ht, hb⟩ := max_lt_iff.1 h2
  refine (EReal.coe_toReal ht.ne fun hx => ?_).symm
  rw [hx] at hb
  exact absurd hb (by simp)

end Cert.Proof.Pre

end
-- ==== Proof.lean ====
/-
  The claims, assembled: the kernel and the reference run and leave their arguments alone, and over the extended reals, on
  spectra of real numbers over the uniform grid, they end with the same array.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_uniform_finite
public import proofs.«01_k».proof.Proof.Run
public import proofs.«01_k».proof.Proof.RefValue
public import proofs.«01_k».proof.Proof.Precondition
public import Idealize.ShloMosaic.Adequacy
public import Idealize.ShloMosaic.Init

@[expose] public section

noncomputable section

namespace Cert.Proof

open Idealize.ShloMosaic Idealize.SL.Sem

/-- The kernel as printed runs, leaves its arguments as they were and its semaphores at zero. -/
theorem frame_kernel : Cert.quiescent_Kernel := fun m ρ _ =>
  (θ_run Cert.KernelIdeal.defs _ _).mono (fun _ h => ⟨fun c => (h.1 c).2, h.2⟩) (Interp.run_main (F := Bits) m ρ)

/-- So does the kernel over the extended reals. -/
theorem frame_kernelIdeal : Cert.quiescent_KernelIdeal := fun m ρ _ =>
  (θ_run Cert.KernelIdeal.defs _ _).mono (fun _ h => ⟨fun c => (h.1 c).2, h.2⟩) (Interp.run_main (F := Ideal) m ρ)

/-- So does the reference. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- On spectra of reals over the uniform grid the kernel's array is the reference's. -/
theorem values_agree (m : (ℓ : Loc Cert.KernelIdeal.nD Cert.KernelIdeal.τ Cert.KernelIdeal.sig) → Buf (Elt Ideal) ℓ)
    (c : Dev Cert.KernelIdeal.nD)
    (h : Cert.Pre_uniform_finite.fn (F := Ideal) (m (Interp.xLoc c)) (m (Interp.wLoc c)) (m (Interp.gLoc c)) = fun _ => 1#1) :
    Ref.refOut (m (Interp.xLoc c)) (m (Interp.wLoc c)) (m (Interp.gLoc c)) = Interp.G m c := by
  funext i
  have hi : Interp.cellAt (i 0).val (Interp.colOf i) = i := Interp.cellAt_colOf i
  have e : Interp.G m c i = Interp.interp (F := Ideal) (Interp.X m c (i 0).val) (m (Interp.wLoc c) i) := by
    show Interp.interp (F := Ideal) (Interp.X m c (i 0).val) (m (Interp.wLoc c) (Interp.cellAt (i 0).val (Interp.colOf i))) = _
    rw [hi]
  rw [e]
  refine Ref.refOut_eq_interp _ _ _ i (fun k => Pre.grid_of _ _ _ h (ix2 (i 0) k))
    (fun k => EReal.toReal (m (Interp.xLoc c) (ix2 (i 0) ⟨k % 8192, Nat.mod_lt _ (by decide)⟩))) (fun k => ?_) _ (fun j => ?_)
  · have hk : (⟨k.val % 8192, Nat.mod_lt _ (by decide)⟩ : Fin 8192) = k := Fin.ext (Nat.mod_eq_of_lt k.isLt)
    rw [hk]
    exact Pre.finite_of _ _ _ h _
  · show m (Interp.xLoc c) (Interp.cellAt (i 0).val j) = _
    refine congrArg _ (funext fun a => Fin.ext ?_)
    match a with
    | 0 => exact Nat.min_eq_left (Nat.le_of_lt_succ (i 0).isLt)
    | 1 => rfl

/-- From arguments that agree, spectra of reals over the uniform grid, the kernel and the reference end with the same array. -/
theorem same_values : Cert.algebraic_KernelIdeal_ReferenceIdeal_pre_uniform_finite := fun m ρ m' ρ' hpre hag =>
  ⟨fun c => Interp.G m c,
    (θ_run Cert.KernelIdeal.defs _ _).mono (fun _ h => h.1) (Interp.run_main (F := Ideal) m ρ),
    (θ_run Cert.ReferenceIdeal.defs _ _).mono (fun r h c => ⟨(h c).1.trans <| by
      refine (Ref.res_eq m' c).trans ?_
      rw [(hag c).1, (hag c).2.1, (hag c).2.2]
      exact values_agree m c (hpre c), (h c).2⟩) (Cert.ReferenceIdeal.Value.run (F := Ideal) m' ρ')⟩

/-- Every claim. -/
theorem claim : Cert.Claim :=
  ⟨Cert.Kernel.Gen.facts, Cert.KernelIdeal.Gen.facts, Cert.ReferenceIdeal.Gen.facts, Cert.Pre_uniform_finite.Gen.facts,
    frame_kernel, frame_kernelIdeal, fun m ρ _ => frame_kernelIdeal m ρ trivial, frame_reference,
    fun m ρ _ => frame_reference m ρ trivial, trivial, same_values⟩

end Cert.Proof

end
